-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_255" .f32 0x3B808081#32 ((1 / 255 : ℝ) : EReal)

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S10000x10000 : Shape := ⟨2, ![10000, 10000]⟩
abbrev S6000x64 : Shape := ⟨2, ![6000, 64]⟩
abbrev S4000x64 : Shape := ⟨2, ![4000, 64]⟩
abbrev S64x64 : Shape := ⟨2, ![64, 64]⟩
abbrev S64 : Shape := ⟨1, ![64]⟩
abbrev S10000x64 : Shape := ⟨2, ![10000, 64]⟩
abbrev S_ : Shape := ⟨0, ![]⟩

class Facts : Prop where
  concatenates_S6000x64_S4000x64_S10000x64_d0 : Shape.Concatenates [S6000x64, S4000x64] S10000x64 0
  bcast_S_S10000x64 : S_.BroadcastsInDim S10000x64 (![] : Fin 0 → Fin S10000x64.rank)
  bcast_S_S10000x10000 : S_.BroadcastsInDim S10000x10000 (![] : Fin 0 → Fin S10000x10000.rank)
  reducesTo_S10000x64_S_d0_1 : S10000x64.ReducesTo [0, 1] S_
  h_S_ : 0 < S_.numel
  bcast_S_S6000x64 : S_.BroadcastsInDim S6000x64 (![] : Fin 0 → Fin S6000x64.rank)
  bcast_S_S4000x64 : S_.BroadcastsInDim S4000x64 (![] : Fin 0 → Fin S4000x64.rank)
  dot_S10000x10000_S10000x64_S10000x64_1_0_0_1_n_n_wf : DotDims.WF S10000x10000 S10000x64 S10000x64 [1] [0] [0] [1] [] []

variable [Facts]

def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def fn_where {F : FTy → Type} [FloatOps F] (arg0 : IVec S10000x64 1) (arg1 : FVec F S10000x64 .f32) (arg2 : FVec F S10000x64 .f32) : FVec F S10000x64 .f32 :=
  let v0 : FVec F S10000x64 .f32 := select arg0 arg1 arg2
  v0

def fn_leaky_relu {F : FTy → Type} [FloatOps F] (arg0 : FVec F S10000x64 .f32) (arg1 : FVec F S_ .f32) : FVec F S10000x64 .f32 :=
  let cst : FVec F S_ .f32 := constant S_ .f32 0x00000000#32
  let v0 : FVec F S10000x64 .f32 := broadcastInDim S10000x64 ![] bcast_S_S10000x64 cst
  let v1 : IVec S10000x64 1 := cmpf .oge arg0 v0
  let v2 : FVec F S_ .f32 := id arg1
  let v3 : FVec F S10000x64 .f32 := broadcastInDim S10000x64 ![] bcast_S_S10000x64 v2
  let v4 : FVec F S10000x64 .f32 := mulf v3 arg0
  let v5 : FVec F S10000x64 .f32 := fn_where (F := F) v1 arg0 v4
  v5

def fn_round {F : FTy → Type} [FloatOps F] (arg0 : FVec F S10000x10000 .f32) : FVec F S10000x10000 .f32 :=
  let v0 : FVec F S10000x10000 .f32 := Host.roundeven arg0
  v0

def fn_clip {F : FTy → Type} [FloatOps F] (arg0 : FVec F S10000x10000 .f32) (arg1 : FVec F S_ .f32) (arg2 : FVec F S_ .f32) : FVec F S10000x10000 .f32 :=
  let v0 : FVec F S_ .f32 := id arg1
  let v1 : FVec F S10000x10000 .f32 := broadcastInDim S10000x10000 ![] bcast_S_S10000x10000 v0
  let v2 : FVec F S10000x10000 .f32 := maximumf v1 arg0
  let v3 : FVec F S_ .f32 := id arg2
  let v4 : FVec F S10000x10000 .f32 := broadcastInDim S10000x10000 ![] bcast_S_S10000x10000 v3
  let v5 : FVec F S10000x10000 .f32 := minimumf v4 v2
  v5

def fn_round_0 {F : FTy → Type} [FloatOps F] (arg0 : FVec F S10000x64 .f32) : FVec F S10000x64 .f32 :=
  let v0 : FVec F S10000x64 .f32 := Host.roundeven arg0
  v0

def fn_part4 {F : FTy → Type} [FloatOps F] (main_v41 : IVec S10000x10000 1) (main_v44 : IVec S6000x64 1) (main_v47 : IVec S4000x64 1) (main_v58 : IVec S10000x64 1) (main_v67 : FVec F S10000x64 .f32) : IVec S10000x10000 1 × IVec S6000x64 1 × IVec S4000x64 1 × IVec S10000x64 1 × IVec S10000x64 1 :=
  let main_cst_27 : FVec F S_ .f32 := constant S_ .f32 0x4C800000#32
  let main_v68 : FVec F S10000x64 .f32 := broadcastInDim S10000x64 ![] bcast_S_S10000x64 main_cst_27
  let main_v69 : IVec S10000x64 1 := cmpf .ole main_v67 main_v68
  (main_v41, main_v44, main_v47, main_v58, main_v69)

def fn_part3 {F : FTy → Type} [FloatOps F] (main_v4 : FVec F S10000x64 .f32) (main_v31 : FVec F S10000x64 .f32) (main_v38 : FVec F S10000x10000 .f32) (main_v41 : IVec S10000x10000 1) (main_v44 : IVec S6000x64 1) (main_v47 : IVec S4000x64 1) (main_v49 : FVec F S_ .f32) : IVec S10000x10000 1 × IVec S6000x64 1 × IVec S4000x64 1 × IVec S10000x64 1 × IVec S10000x64 1 :=
  let main_cst_21 : FVec F S_ .f32 := constant S_ .f32 0x42FE0000#32
  let main_v50 : FVec F S_ .f32 := Host.divf main_v49 main_cst_21
  let main_cst_22 : FVec F S_ .f32 := constant S_ .f32 0x0DA24260#32
  let main_v51 : FVec F S_ .f32 := maximumf main_v50 main_cst_22
  let main_v52 : FVec F S10000x64 .f32 := broadcastInDim S10000x64 ![] bcast_S_S10000x64 main_v51
  let main_v53 : FVec F S10000x64 .f32 := Host.divf main_v4 main_v52
  let main_v54 : FVec F S10000x64 .f32 := fn_round_0 (F := F) main_v53
  let main_v55 : FVec F S10000x64 .f32 := Host.absf main_v54
  let main_v56 : FVec F S10000x64 .f32 := (fun l r => Host.dotGeneral dot_S10000x10000_S10000x64_S10000x64_1_0_0_1_n_n none l r) main_v38 main_v55
  let main_cst_23 : FVec F S_ .f32 := constant S_ .f32 0x4C800000#32
  let main_v57 : FVec F S10000x64 .f32 := broadcastInDim S10000x64 ![] bcast_S_S10000x64 main_cst_23
  let main_v58 : IVec S10000x64 1 := cmpf .ole main_v56 main_v57
  let main_v59 : FVec F S10000x64 .f32 := Host.absf main_v31
  let main_cst_24 : FVec F S_ .f32 := constant S_ .f32 0xFF800000#32
  let main_v60 : FVec F S_ .f32 := (fun x v => Host.reduce FloatOps.maximumf x v reducesTo_S10000x64_S_d0_1 h_S_) main_v59 main_cst_24
  let main_cst_25 : FVec F S_ .f32 := constant S_ .f32 0x42FE0000#32
  let main_v61 : FVec F S_ .f32 := Host.divf main_v60 main_cst_25
  let main_cst_26 : FVec F S_ .f32 := constant S_ .f32 0x0DA24260#32
  let main_v62 : FVec F S_ .f32 := maximumf main_v61 main_cst_26
  let main_v63 : FVec F S10000x64 .f32 := broadcastInDim S10000x64 ![] bcast_S_S10000x64 main_v62
  let main_v64 : FVec F S10000x64 .f32 := Host.divf main_v31 main_v63
  let main_v65 : FVec F S10000x64 .f32 := fn_round_0 (F := F) main_v64
  let main_v66 : FVec F S10000x64 .f32 := Host.absf main_v65
  let main_v67 : FVec F S10000x64 .f32 := (fun l r => Host.dotGeneral dot_S10000x10000_S10000x64_S10000x64_1_0_0_1_n_n none l r) main_v38 main_v66
  fn_part4 (F := F) main_v41 main_v44 main_v47 main_v58 main_v67

def fn_part2 {F : FTy → Type} [FloatOps F] (main_arg0 : FVec F S10000x10000 .f32) (main_arg1 : FVec F S6000x64 .f32) (main_arg2 : FVec F S4000x64 .f32) (main_v4 : FVec F S10000x64 .f32) (main_v31 : FVec F S10000x64 .f32) (main_v32 : FVec F S10000x10000 .f32) : IVec S10000x10000 1 × IVec S6000x64 1 × IVec S4000x64 1 × IVec S10000x64 1 × IVec S10000x64 1 :=
  let main_v33 : FVec F S10000x10000 .f32 := subf main_arg0 main_v32
  let main_cst_14 : FVec F S_ .f32 := constant S_ .f32 0x437F0000#32
  let main_v34 : FVec F S10000x10000 .f32 := broadcastInDim S10000x10000 ![] bcast_S_S10000x10000 main_cst_14
  let main_v35 : FVec F S10000x10000 .f32 := mulf main_v33 main_v34
  let main_v36 : FVec F S10000x10000 .f32 := fn_round (F := F) main_v35
  let main_cst_15 : FVec F S_ .f32 := constant S_ .f32 0xC3000000#32
  let main_cst_16 : FVec F S_ .f32 := constant S_ .f32 0x42FE0000#32
  let main_v37 : FVec F S10000x10000 .f32 := fn_clip (F := F) main_v36 main_cst_15 main_cst_16
  let main_v38 : FVec F S10000x10000 .f32 := Host.absf main_v37
  let main_v39 : FVec F S10000x10000 .f32 := Host.absf main_arg0
  let main_cst_17 : FVec F S_ .f32 := constant S_ .f32 0x7F800000#32
  let main_v40 : FVec F S10000x10000 .f32 := broadcastInDim S10000x10000 ![] bcast_S_S10000x10000 main_cst_17
  let main_v41 : IVec S10000x10000 1 := cmpf .olt main_v39 main_v40
  let main_v42 : FVec F S6000x64 .f32 := Host.absf main_arg1
  let main_cst_18 : FVec F S_ .f32 := constant S_ .f32 0x7F800000#32
  let main_v43 : FVec F S6000x64 .f32 := broadcastInDim S6000x64 ![] bcast_S_S6000x64 main_cst_18
  let main_v44 : IVec S6000x64 1 := cmpf .olt main_v42 main_v43
  let main_v45 : FVec F S4000x64 .f32 := Host.absf main_arg2
  let main_cst_19 : FVec F S_ .f32 := constant S_ .f32 0x7F800000#32
  let main_v46 : FVec F S4000x64 .f32 := broadcastInDim S4000x64 ![] bcast_S_S4000x64 main_cst_19
  let main_v47 : IVec S4000x64 1 := cmpf .olt main_v45 main_v46
  let main_v48 : FVec F S10000x64 .f32 := Host.absf main_v4
  let main_cst_20 : FVec F S_ .f32 := constant S_ .f32 0xFF800000#32
  let main_v49 : FVec F S_ .f32 := (fun x v => Host.reduce FloatOps.maximumf x v reducesTo_S10000x64_S_d0_1 h_S_) main_v48 main_cst_20
  fn_part3 (F := F) main_v4 main_v31 main_v38 main_v41 main_v44 main_v47 main_v49

def fn_part1 {F : FTy → Type} [FloatOps F] (main_arg0 : FVec F S10000x10000 .f32) (main_arg1 : FVec F S6000x64 .f32) (main_arg2 : FVec F S4000x64 .f32) (main_v4 : FVec F S10000x64 .f32) (main_v14 : FVec F S10000x10000 .f32) (main_v15 : FVec F S10000x64 .f32) (main_cst_6 : FVec F S_ .f32) : IVec S10000x10000 1 × IVec S6000x64 1 × IVec S4000x64 1 × IVec S10000x64 1 × IVec S10000x64 1 :=
  let main_v16 : FVec F S_ .f32 := (fun x v => Host.reduce FloatOps.maximumf x v reducesTo_S10000x64_S_d0_1 h_S_) main_v15 main_cst_6
  let main_cst_7 : FVec F S_ .f32 := constant S_ .f32 0x42FE0000#32
  let main_v17 : FVec F S_ .f32 := Host.divf main_v16 main_cst_7
  let main_cst_8 : FVec F S_ .f32 := constant S_ .f32 0x0DA24260#32
  let main_v18 : FVec F S_ .f32 := maximumf main_v17 main_cst_8
  let main_v19 : FVec F S10000x64 .f32 := broadcastInDim S10000x64 ![] bcast_S_S10000x64 main_v18
  let main_v20 : FVec F S10000x64 .f32 := Host.divf main_v4 main_v19
  let main_v21 : FVec F S10000x64 .f32 := fn_round_0 (F := F) main_v20
  let main_v22 : FVec F S10000x64 .f32 := Host.absf main_v4
  let main_cst_9 : FVec F S_ .f32 := constant S_ .f32 0xFF800000#32
  let main_v23 : FVec F S_ .f32 := (fun x v => Host.reduce FloatOps.maximumf x v reducesTo_S10000x64_S_d0_1 h_S_) main_v22 main_cst_9
  let main_cst_10 : FVec F S_ .f32 := constant S_ .f32 0x42FE0000#32
  let main_v24 : FVec F S_ .f32 := Host.divf main_v23 main_cst_10
  let main_cst_11 : FVec F S_ .f32 := constant S_ .f32 0x0DA24260#32
  let main_v25 : FVec F S_ .f32 := maximumf main_v24 main_cst_11
  let main_v26 : FVec F S10000x64 .f32 := broadcastInDim S10000x64 ![] bcast_S_S10000x64 main_v25
  let main_v27 : FVec F S10000x64 .f32 := mulf main_v21 main_v26
  let main_v28 : FVec F S10000x64 .f32 := (fun l r => Host.dotGeneral dot_S10000x10000_S10000x64_S10000x64_1_0_0_1_n_n none l r) main_v14 main_v27
  let main_v29 : FVec F S10000x64 .f32 := mulf main_v4 main_v28
  let main_v30 : FVec F S10000x64 .f32 := addf main_v28 main_v29
  let main_cst_12 : FVec F S_ .f32 := constant S_ .f32 0x3C23D70A#32
  let main_v31 : FVec F S10000x64 .f32 := fn_leaky_relu (F := F) main_v30 main_cst_12
  let main_cst_13 : FVec F S_ .f32 := constant S_ .f32 0x3F000000#32
  let main_v32 : FVec F S10000x10000 .f32 := broadcastInDim S10000x10000 ![] bcast_S_S10000x10000 main_cst_13
  fn_part2 (F := F) main_arg0 main_arg1 main_arg2 main_v4 main_v31 main_v32

def fn {F : FTy → Type} [FloatOps F] (main_arg0 : FVec F S10000x10000 .f32) (main_arg1 : FVec F S6000x64 .f32) (main_arg2 : FVec F S4000x64 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) : IVec S10000x10000 1 × IVec S6000x64 1 × IVec S4000x64 1 × IVec S10000x64 1 × IVec S10000x64 1 :=
  let main_v0 : FVec F S10000x64 .f32 := (fun a b => concatenate S10000x64 0 [⟨S6000x64, a⟩, ⟨S4000x64, b⟩] concatenates_S6000x64_S4000x64_S10000x64_d0) main_arg1 main_arg2
  let main_v1 : FVec F S10000x64 .f32 := (fun l r => Host.dotGeneral dot_S10000x10000_S10000x64_S10000x64_1_0_0_1_n_n none l r) main_arg0 main_v0
  let main_v2 : FVec F S10000x64 .f32 := mulf main_v0 main_v1
  let main_v3 : FVec F S10000x64 .f32 := addf main_v1 main_v2
  let main_cst : FVec F S_ .f32 := constant S_ .f32 0x3C23D70A#32
  let main_v4 : FVec F S10000x64 .f32 := fn_leaky_relu (F := F) main_v3 main_cst
  let main_cst_0 : FVec F S_ .f32 := constant S_ .f32 0x3F000000#32
  let main_v5 : FVec F S10000x10000 .f32 := broadcastInDim S10000x10000 ![] bcast_S_S10000x10000 main_cst_0
  let main_v6 : FVec F S10000x10000 .f32 := subf main_arg0 main_v5
  let main_cst_1 : FVec F S_ .f32 := constant S_ .f32 0x437F0000#32
  let main_v7 : FVec F S10000x10000 .f32 := broadcastInDim S10000x10000 ![] bcast_S_S10000x10000 main_cst_1
  let main_v8 : FVec F S10000x10000 .f32 := mulf main_v6 main_v7
  let main_v9 : FVec F S10000x10000 .f32 := fn_round (F := F) main_v8
  let main_cst_2 : FVec F S_ .f32 := constant S_ .f32 0xC3000000#32
  let main_cst_3 : FVec F S_ .f32 := constant S_ .f32 0x42FE0000#32
  let main_v10 : FVec F S10000x10000 .f32 := fn_clip (F := F) main_v9 main_cst_2 main_cst_3
  let main_cst_4 : FVec F S_ .f32 := constant S_ .f32 0x437F0000#32
  let main_v11 : FVec F S10000x10000 .f32 := broadcastInDim S10000x10000 ![] bcast_S_S10000x10000 main_cst_4
  let main_v12 : FVec F S10000x10000 .f32 := Host.divf main_v10 main_v11
  let main_cst_5 : FVec F S_ .f32 := constant S_ .f32 0x3F000000#32
  let main_v13 : FVec F S10000x10000 .f32 := broadcastInDim S10000x10000 ![] bcast_S_S10000x10000 main_cst_5
  let main_v14 : FVec F S10000x10000 .f32 := addf main_v12 main_v13
  let main_v15 : FVec F S10000x64 .f32 := Host.absf main_v4
  let main_cst_6 : FVec F S_ .f32 := constant S_ .f32 0xFF800000#32
  fn_part1 (F := F) main_arg0 main_arg1 main_arg2 main_v4 main_v14 main_v15 main_cst_6
-- ==== Kernel.lean ====
abbrev S10000x10000 : Shape := ⟨2, ![10000, 10000]⟩
abbrev S6000x64 : Shape := ⟨2, ![6000, 64]⟩
abbrev S4000x64 : Shape := ⟨2, ![4000, 64]⟩
abbrev S64x64 : Shape := ⟨2, ![64, 64]⟩
abbrev S64 : Shape := ⟨1, ![64]⟩
abbrev S10000x64 : Shape := ⟨2, ![10000, 64]⟩
abbrev S25x400x10000 : Shape := ⟨3, ![25, 400, 10000]⟩
abbrev S400x10000 : Shape := ⟨2, ![400, 10000]⟩
abbrev S400x64 : Shape := ⟨2, ![400, 64]⟩
abbrev S1x400x10000 : Shape := ⟨3, ![1, 400, 10000]⟩
abbrev S400 : Shape := ⟨1, ![400]⟩
abbrev S400x1 : Shape := ⟨2, ![400, 1]⟩
abbrev S_ : Shape := ⟨0, ![]⟩
abbrev S1x64 : Shape := ⟨2, ![1, 64]⟩
abbrev S10000x256 : Shape := ⟨2, ![10000, 256]⟩
abbrev S6000x256 : Shape := ⟨2, ![6000, 256]⟩
abbrev S4000x256 : Shape := ⟨2, ![4000, 256]⟩

abbrev nBuf : Space → Nat
  | .hbm => 54
  | .vmem => 29
  | .smem => 0
  | _ => 0

abbrev bufTy : (tb : Table) → Fin (tcTables nBuf tb) → BufTy
  | .hbm, ⟨0, _⟩ => ⟨S10000x10000, .f32⟩
  | .hbm, ⟨1, _⟩ => ⟨S6000x64, .f32⟩
  | .hbm, ⟨2, _⟩ => ⟨S4000x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S10000x64, .f32⟩
  | .hbm, ⟨10, _⟩ => ⟨S10000x64, .f32⟩
  | .hbm, ⟨11, _⟩ => ⟨S10000x64, .f32⟩
  | .hbm, ⟨12, _⟩ => ⟨S25x400x10000, .i8⟩
  | .hbm, ⟨13, _⟩ => ⟨S10000x64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S10000x64, .f32⟩
  | .hbm, ⟨21, _⟩ => ⟨S10000x64, .f32⟩
  | .hbm, ⟨22, _⟩ => ⟨S10000x64, .f32⟩
  | .hbm, ⟨23, _⟩ => ⟨S10000x64, .i32⟩
  | .hbm, ⟨24, _⟩ => ⟨S10000x64, .i8⟩
  | .hbm, ⟨25, _⟩ => ⟨S_, .f32⟩
  | .hbm, ⟨26, _⟩ => ⟨S10000x64, .f32⟩
  | .hbm, ⟨27, _⟩ => ⟨S10000x64, .f32⟩
  | .hbm, ⟨28, _⟩ => ⟨S10000x64, .f32⟩
  | .hbm, ⟨29, _⟩ => ⟨S10000x64, .f32⟩
  | .hbm, ⟨30, _⟩ => ⟨S10000x64, .f32⟩
  | .hbm, ⟨31, _⟩ => ⟨S10000x64, .f32⟩
  | .hbm, ⟨32, _⟩ => ⟨S10000x64, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S10000x64, .f32⟩
  | .hbm, ⟨40, _⟩ => ⟨S10000x64, .f32⟩
  | .hbm, ⟨41, _⟩ => ⟨S10000x64, .f32⟩
  | .hbm, ⟨42, _⟩ => ⟨S10000x64, .i32⟩
  | .hbm, ⟨43, _⟩ => ⟨S10000x64, .i8⟩
  | .hbm, ⟨44, _⟩ => ⟨S_, .f32⟩
  | .hbm, ⟨45, _⟩ => ⟨S10000x64, .f32⟩
  | .hbm, ⟨46, _⟩ => ⟨S10000x64, .f32⟩
  | .hbm, ⟨47, _⟩ => ⟨S10000x64, .f32⟩
  | .hbm, ⟨48, _⟩ => ⟨S10000x64, .f32⟩
  | .hbm, ⟨49, _⟩ => ⟨S10000x64, .f32⟩
  | .hbm, ⟨50, _⟩ => ⟨S10000x64, .f32⟩
  | .hbm, ⟨51, _⟩ => ⟨S10000x256, .f32⟩
  | .hbm, ⟨52, _⟩ => ⟨S6000x256, .f32⟩
  | .hbm, ⟨53, _⟩ => ⟨S4000x256, .f32⟩
  | .local _ .vmem, ⟨0, _⟩ => ⟨S400x10000, .f32⟩
  | .local _ .vmem, ⟨1, _⟩ => ⟨S400x10000, .f32⟩
  | .local _ .vmem, ⟨2, _⟩ => ⟨S10000x64, .f32⟩
  | .local _ .vmem, ⟨3, _⟩ => ⟨S400x64, .f32⟩
  | .local _ .vmem, ⟨4, _⟩ => ⟨S400x64, .f32⟩
  | .local _ .vmem, ⟨5, _⟩ => ⟨S400x64, .f32⟩
  | .local _ .vmem, ⟨6, _⟩ => ⟨S400x64, .f32⟩
  | .local _ .vmem, ⟨7, _⟩ => ⟨S400x64, .f32⟩
  | .local _ .vmem, ⟨8, _⟩ => ⟨S400x64, .f32⟩
  | .local _ .vmem, ⟨9, _⟩ => ⟨S1x400x10000, .i8⟩
  | .local _ .vmem, ⟨10, _⟩ => ⟨S1x400x10000, .i8⟩
  | .local _ .vmem, ⟨11, _⟩ => ⟨S1x400x10000, .i8⟩
  | .local _ .vmem, ⟨12, _⟩ => ⟨S1x400x10000, .i8⟩
  | .local _ .vmem, ⟨13, _⟩ => ⟨S10000x64, .i8⟩
  | .local _ .vmem, ⟨14, _⟩ => ⟨S400x64, .f32⟩
  | .local _ .vmem, ⟨15, _⟩ => ⟨S400x64, .f32⟩
  | .local _ .vmem, ⟨16, _⟩ => ⟨S400x64, .f32⟩
  | .local _ .vmem, ⟨17, _⟩ => ⟨S400x64, .f32⟩
  | .local _ .vmem, ⟨18, _⟩ => ⟨S400x64, .f32⟩
  | .local _ .vmem, ⟨19, _⟩ => ⟨S400x64, .f32⟩
  | .local _ .vmem, ⟨20, _⟩ => ⟨S1x400x10000, .i8⟩
  | .local _ .vmem, ⟨21, _⟩ => ⟨S1x400x10000, .i8⟩
  | .local _ .vmem, ⟨22, _⟩ => ⟨S10000x64, .i8⟩
  | .local _ .vmem, ⟨23, _⟩ => ⟨S400x64, .f32⟩
  | .local _ .vmem, ⟨24, _⟩ => ⟨S400x64, .f32⟩
  | .local _ .vmem, ⟨25, _⟩ => ⟨S400x64, .f32⟩
  | .local _ .vmem, ⟨26, _⟩ => ⟨S400x64, .f32⟩
  | .local _ .vmem, ⟨27, _⟩ => ⟨S400x64, .f32⟩
  | .local _ .vmem, ⟨28, _⟩ => ⟨S400x64, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15_0 : Ref sig .tc := ⟨.hbm, 30, rfl⟩
abbrev main_v15_1 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_cst_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29_0 : Ref sig .tc := ⟨.hbm, 49, rfl⟩
abbrev main_v29_1 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28

abbrev nD : Nat := 1
abbrev τ : Topo := Topo.v5e

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x400x10000 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x400x10000 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .i8 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1x400x10000 .i8 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .i8 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S400x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S400x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== KernelIdeal.lean ====
variable {F : FTy → Type} [FloatOps F] [Named F]
def κ : String → Option EReal := fun
  | "inv_255" => some ((1 / 255 : ℝ) : EReal)
  | _ => none
-- ==== ReferenceIdeal.lean ====
abbrev S10000x10000 : Shape := ⟨2, ![10000, 10000]⟩
abbrev S6000x64 : Shape := ⟨2, ![6000, 64]⟩
abbrev S4000x64 : Shape := ⟨2, ![4000, 64]⟩
abbrev S64x64 : Shape := ⟨2, ![64, 64]⟩
abbrev S64 : Shape := ⟨1, ![64]⟩
abbrev S10000x64 : Shape := ⟨2, ![10000, 64]⟩
abbrev S_ : Shape := ⟨0, ![]⟩
abbrev S10000 : Shape := ⟨1, ![10000]⟩
abbrev S10000x1 : Shape := ⟨2, ![10000, 1]⟩
abbrev S10000x256 : Shape := ⟨2, ![10000, 256]⟩
abbrev S6000x256 : Shape := ⟨2, ![6000, 256]⟩
abbrev S4000x256 : Shape := ⟨2, ![4000, 256]⟩

abbrev nBuf : Space → Nat
  | .hbm => 156
  | .vmem => 0
  | .smem => 0
  | _ => 0

abbrev hbmTy0_0 (i : Nat) : BufTy := match i % 128 with
  | 0 => ⟨S10000x10000, .f32⟩
  | 1 => ⟨S6000x64, .f32⟩
  | 2 => ⟨S4000x64, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S10000x64, .f32⟩
  | 10 => ⟨S10000x64, .f32⟩
  | 11 => ⟨S10000x64, .f32⟩
  | 12 => ⟨S10000x64, .f32⟩
  | 13 => ⟨S_, .f32⟩
  | 14 => ⟨S_, .f32⟩
  | 15 => ⟨S10000x64, .f32⟩
  | 16 => ⟨S10000x64, .i1⟩
  | 17 => ⟨S_, .f32⟩
  | 18 => ⟨S10000x64, .f32⟩
  | 19 => ⟨S10000x64, .f32⟩
  | 20 => ⟨S10000x64, .f32⟩
  | 21 => ⟨S10000x64, .f32⟩
  | 22 => ⟨S_, .f32⟩
  | 23 => ⟨S10000, .f32⟩
  | 24 => ⟨S10000x1, .f32⟩
  | 25 => ⟨S10000x1, .f32⟩
  | 26 => ⟨S_, .f32⟩
  | 27 => ⟨S10000x1, .f32⟩
  | 28 => ⟨S10000x1, .f32⟩
  | 29 => ⟨S10000x64, .f32⟩
  | 30 => ⟨S10000x64, .f32⟩
  | 31 => ⟨S_, .f32⟩
  | 32 => ⟨S10000x10000, .f32⟩
  | 33 => ⟨S10000x10000, .f32⟩
  | 34 => ⟨S_, .f32⟩
  | 35 => ⟨S10000x10000, .f32⟩
  | 36 => ⟨S10000x10000, .f32⟩
  | 37 => ⟨S10000x10000, .f32⟩
  | 38 => ⟨S_, .f32⟩
  | 39 => ⟨S_, .f32⟩
  | 40 => ⟨S_, .f32⟩
  | 41 => ⟨S10000x10000, .f32⟩
  | 42 => ⟨S10000x10000, .f32⟩
  | 43 => ⟨S_, .f32⟩
  | 44 => ⟨S10000x10000, .f32⟩
  | 45 => ⟨S10000x10000, .f32⟩
  | 46 => ⟨S_, .f32⟩
  | 47 => ⟨S10000x10000, .f32⟩
  | 48 => ⟨S10000x10000, .f32⟩
  | 49 => ⟨S_, .f32⟩
  | 50 => ⟨S10000x10000, .f32⟩
  | 51 => ⟨S10000x10000, .f32⟩
  | 52 => ⟨S10000x64, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S10000x64, .f32⟩
  | 60 => ⟨S10000x64, .f32⟩
  | 61 => ⟨S10000x64, .f32⟩
  | 62 => ⟨S10000x64, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S10000x64, .f32⟩
  | 70 => ⟨S10000x64, .f32⟩
  | 71 => ⟨S10000x64, .f32⟩
  | 72 => ⟨S10000x64, .f32⟩
  | 73 => ⟨S10000x64, .f32⟩
  | 74 => ⟨S_, .f32⟩
  | 75 => ⟨S_, .f32⟩
  | 76 => ⟨S10000x64, .f32⟩
  | 77 => ⟨S10000x64, .i1⟩
  | 78 => ⟨S_, .f32⟩
  | 79 => ⟨S10000x64, .f32⟩
  | 80 => ⟨S10000x64, .f32⟩
  | 81 => ⟨S10000x64, .f32⟩
  | 82 => ⟨S10000x64, .f32⟩
  | 83 => ⟨S_, .f32⟩
  | 84 => ⟨S10000, .f32⟩
  | 85 => ⟨S10000x1, .f32⟩
  | 86 => ⟨S10000x1, .f32⟩
  | 87 => ⟨S_, .f32⟩
  | 88 => ⟨S10000x1, .f32⟩
  | 89 => ⟨S10000x1, .f32⟩
  | 90 => ⟨S10000x64, .f32⟩
  | 91 => ⟨S10000x64, .f32⟩
  | 92 => ⟨S_, .f32⟩
  | 93 => ⟨S10000x10000, .f32⟩
  | 94 => ⟨S10000x10000, .f32⟩
  | 95 => ⟨S_, .f32⟩
  | 96 => ⟨S10000x10000, .f32⟩
  | 97 => ⟨S10000x10000, .f32⟩
  | 98 => ⟨S10000x10000, .f32⟩
  | 99 => ⟨S_, .f32⟩
  | 100 => ⟨S_, .f32⟩
  | 101 => ⟨S_, .f32⟩
  | 102 => ⟨S10000x10000, .f32⟩
  | 103 => ⟨S10000x10000, .f32⟩
  | 104 => ⟨S_, .f32⟩
  | 105 => ⟨S10000x10000, .f32⟩
  | 106 => ⟨S10000x10000, .f32⟩
  | 107 => ⟨S_, .f32⟩
  | 108 => ⟨S10000x10000, .f32⟩
  | 109 => ⟨S10000x10000, .f32⟩
  | 110 => ⟨S_, .f32⟩
  | 111 => ⟨S10000x10000, .f32⟩
  | 112 => ⟨S10000x10000, .f32⟩
  | 113 => ⟨S10000x64, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S10000x64, .f32⟩
  | 121 => ⟨S10000x64, .f32⟩
  | 122 => ⟨S10000x64, .f32⟩
  | 123 => ⟨S10000x64, .f32⟩
  | 124 => ⟨S_, .f32⟩
  | 125 => ⟨S_, .f32⟩
  | 126 => ⟨S_, .f32⟩
  | 127 => ⟨S_, .f32⟩
  | _ => ⟨S10000x10000, .f32⟩

abbrev hbmTy0_1 (i : Nat) : BufTy := match i % 128 with
  | 0 => ⟨S_, .f32⟩
  | 1 => ⟨S_, .f32⟩
  | 2 => ⟨S10000x64, .f32⟩
  | 3 => ⟨S10000x64, .f32⟩
  | 4 => ⟨S10000x64, .f32⟩
  | 5 => ⟨S10000x64, .f32⟩
  | 6 => ⟨S10000x64, .f32⟩
  | 7 => ⟨S_, .f32⟩
  | 8 => ⟨S_, .f32⟩
  | 9 => ⟨S10000x64, .f32⟩
  | 10 => ⟨S10000x64, .i1⟩
  | 11 => ⟨S_, .f32⟩
  | 12 => ⟨S10000x64, .f32⟩
  | 13 => ⟨S10000x64, .f32⟩
  | 14 => ⟨S10000x64, .f32⟩
  | 15 => ⟨S10000x64, .f32⟩
  | 16 => ⟨S_, .f32⟩
  | 17 => ⟨S10000, .f32⟩
  | 18 => ⟨S10000x1, .f32⟩
  | 19 => ⟨S10000x1, .f32⟩
  | 20 => ⟨S_, .f32⟩
  | 21 => ⟨S10000x1, .f32⟩
  | 22 => ⟨S10000x1, .f32⟩
  | 23 => ⟨S10000x64, .f32⟩
  | 24 => ⟨S10000x64, .f32⟩
  | 25 => ⟨S10000x256, .f32⟩
  | 26 => ⟨S6000x256, .f32⟩
  | 27 => ⟨S4000x256, .f32⟩
  | _ => ⟨S10000x10000, .f32⟩

abbrev hbmTy (i : Nat) : BufTy := match i / 128 with
  | 0 => hbmTy0_0 i
  | 1 => hbmTy0_1 i
  | _ => ⟨S10000x10000, .f32⟩

abbrev bufTy : (tb : Table) → Fin (tcTables nBuf tb) → BufTy
  | .hbm, ⟨i, _⟩ => hbmTy i
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v4 : Ref sig .tc := ⟨.hbm, 20, rfl⟩
abbrev main_call1_v0 : Ref sig .tc := ⟨.hbm, 21, rfl⟩
abbrev main_call1_cst : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_v11 : Ref sig .tc := ⟨.hbm, 33, rfl⟩
abbrev main_cst_2 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_3 : Ref sig .tc := ⟨.hbm, 38, rfl⟩
abbrev main_cst_4 : Ref sig .tc := ⟨.hbm, 39, rfl⟩
abbrev main_call3_v0 : Ref sig .tc := ⟨.hbm, 40, rfl⟩
abbrev main_call3_v1 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_v15 : Ref sig .tc := ⟨.hbm, 45, rfl⟩
abbrev main_cst_5 : Ref sig .tc := ⟨.hbm, 46, rfl⟩
abbrev main_v16 : Ref sig .tc := ⟨.hbm, 47, rfl⟩
abbrev main_v17 : Ref sig .tc := ⟨.hbm, 48, rfl⟩
abbrev main_cst_6 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_7 : Ref sig .tc := ⟨.hbm, 53, rfl⟩
abbrev main_v21 : Ref sig .tc := ⟨.hbm, 54, rfl⟩
abbrev main_cst_8 : Ref sig .tc := ⟨.hbm, 55, rfl⟩
abbrev main_v22 : Ref sig .tc := ⟨.hbm, 56, rfl⟩
abbrev main_cst_9 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_cst_10 : Ref sig .tc := ⟨.hbm, 63, rfl⟩
abbrev main_v28 : Ref sig .tc := ⟨.hbm, 64, rfl⟩
abbrev main_cst_11 : Ref sig .tc := ⟨.hbm, 65, rfl⟩
abbrev main_v29 : Ref sig .tc := ⟨.hbm, 66, rfl⟩
abbrev main_cst_12 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_13 : Ref sig .tc := ⟨.hbm, 74, rfl⟩
abbrev main_call5_cst : Ref sig .tc := ⟨.hbm, 75, rfl⟩
abbrev main_call5_v0 : Ref sig .tc := ⟨.hbm, 76, rfl⟩
abbrev main_call5_v1 : Ref sig .tc := ⟨.hbm, 77, rfl⟩
abbrev main_call5_v2 : Ref sig .tc := ⟨.hbm, 78, rfl⟩
abbrev main_call5_v3 : Ref sig .tc := ⟨.hbm, 79, rfl⟩
abbrev main_call5_v4 : Ref sig .tc := ⟨.hbm, 80, rfl⟩
abbrev main_v36 : Ref sig .tc := ⟨.hbm, 81, rfl⟩
abbrev main_call6_v0 : Ref sig .tc := ⟨.hbm, 82, rfl⟩
abbrev main_call6_cst : Ref sig .tc := ⟨.hbm, 83, rfl⟩
abbrev main_call6_v1 : Ref sig .tc := ⟨.hbm, 84, rfl⟩
abbrev main_call6_v2 : Ref sig .tc := ⟨.hbm, 85, rfl⟩
abbrev main_v37 : Ref sig .tc := ⟨.hbm, 86, rfl⟩
abbrev main_cst_14 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_cst_15 : Ref sig .tc := ⟨.hbm, 92, rfl⟩
abbrev main_v42 : Ref sig .tc := ⟨.hbm, 93, rfl⟩
abbrev main_v43 : Ref sig .tc := ⟨.hbm, 94, rfl⟩
abbrev main_cst_16 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_cst_17 : Ref sig .tc := ⟨.hbm, 99, rfl⟩
abbrev main_cst_18 : Ref sig .tc := ⟨.hbm, 100, rfl⟩
abbrev main_call8_v0 : Ref sig .tc := ⟨.hbm, 101, rfl⟩
abbrev main_call8_v1 : Ref sig .tc := ⟨.hbm, 102, rfl⟩
abbrev main_call8_v2 : Ref sig .tc := ⟨.hbm, 103, rfl⟩
abbrev main_call8_v3 : Ref sig .tc := ⟨.hbm, 104, rfl⟩
abbrev main_call8_v4 : Ref sig .tc := ⟨.hbm, 105, rfl⟩
abbrev main_v47 : Ref sig .tc := ⟨.hbm, 106, rfl⟩
abbrev main_cst_19 : Ref sig .tc := ⟨.hbm, 107, rfl⟩
abbrev main_v48 : Ref sig .tc := ⟨.hbm, 108, rfl⟩
abbrev main_v49 : Ref sig .tc := ⟨.hbm, 109, rfl⟩
abbrev main_cst_20 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_cst_21 : Ref sig .tc := ⟨.hbm, 114, rfl⟩
abbrev main_v53 : Ref sig .tc := ⟨.hbm, 115, rfl⟩
abbrev main_cst_22 : Ref sig .tc := ⟨.hbm, 116, rfl⟩
abbrev main_v54 : Ref sig .tc := ⟨.hbm, 117, rfl⟩
abbrev main_cst_23 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_cst_24 : Ref sig .tc := ⟨.hbm, 124, rfl⟩
abbrev main_v60 : Ref sig .tc := ⟨.hbm, 125, rfl⟩
abbrev main_cst_25 : Ref sig .tc := ⟨.hbm, 126, rfl⟩
abbrev main_v61 : Ref sig .tc := ⟨.hbm, 127, rfl⟩
abbrev main_cst_26 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_cst_27 : Ref sig .tc := ⟨.hbm, 135, rfl⟩
abbrev main_call10_cst : Ref sig .tc := ⟨.hbm, 136, rfl⟩
abbrev main_call10_v0 : Ref sig .tc := ⟨.hbm, 137, rfl⟩
abbrev main_call10_v1 : Ref sig .tc := ⟨.hbm, 138, rfl⟩
abbrev main_call10_v2 : Ref sig .tc := ⟨.hbm, 139, rfl⟩
abbrev main_call10_v3 : Ref sig .tc := ⟨.hbm, 140, rfl⟩
abbrev main_call10_v4 : Ref sig .tc := ⟨.hbm, 141, rfl⟩
abbrev main_v68 : Ref sig .tc := ⟨.hbm, 142, rfl⟩
abbrev main_call11_v0 : Ref sig .tc := ⟨.hbm, 143, rfl⟩
abbrev main_call11_cst : Ref sig .tc := ⟨.hbm, 144, rfl⟩
abbrev main_call11_v1 : Ref sig .tc := ⟨.hbm, 145, rfl⟩
abbrev main_call11_v2 : Ref sig .tc := ⟨.hbm, 146, rfl⟩
abbrev main_v69 : Ref sig .tc := ⟨.hbm, 147, rfl⟩
abbrev main_cst_28 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩

abbrev nD : Nat := 1
abbrev τ : Topo := Topo.v5e

variable {F : FTy → Type} [FloatOps F]
-- ==== Proof.Frames.lean ====
/- The frames and the named constant: what the certificate claims apart from values. The two kernel programs' frames are the
   generated ones; the reference's is its generated run, which writes no argument and has no semaphores. The constant
   1/255 is given its value by the certificate's own table. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite_and_in_range
public import Idealize.ShloMosaic.Lib.Quiescent

@[expose] public section

noncomputable section

namespace Cert.Frames

open Idealize.ShloMosaic Idealize.ShloMosaic.TcCoe Idealize.SL.Sem

/-- The printed kernel runs and leaves its arguments as launched. -/
theorem kernel : Cert.quiescent_Kernel := fun m ρ _ => Cert.Kernel.Gen.frame m ρ

/-- So does the kernel with 1/255 named. -/
theorem kernelIdeal : Cert.quiescent_KernelIdeal := fun m ρ _ => Cert.KernelIdeal.Gen.frame m ρ

/-- And the same, the precondition given and not used. -/
theorem kernelIdealPre : Cert.quiescent_KernelIdeal_pre_finite_and_in_range :=
  fun m ρ _ => Cert.KernelIdeal.Gen.frame m ρ

/-- The reference runs and leaves its arguments as launched; it has no semaphore to leave raised. -/
theorem referenceIdeal : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- And the same, the precondition given and not used. -/
theorem referenceIdealPre : Cert.quiescent_ReferenceIdeal_pre_finite_and_in_range :=
  fun m ρ _ => referenceIdeal m ρ trivial

/-- The named constant is what the table says. -/
theorem preserves : Cert.preserves_Kernel_KernelIdeal :=
  IdealRules.named_const.statement Cert.KernelIdeal.κ "inv_255" .f32 0x3B808081#32 ((1 / 255 : ℝ) : EReal) rfl

end Cert.Frames

end
-- ==== Proof.Nums.lean ====
/- The real numbers the proof speaks of: the float constants the programs name, as reals; rounding to the nearest integer;
   and the two small functions of a layer, the leaky slope and the code of an entry of the hypergraph. -/
module

public import Idealize.ShloMosaic.PureOps.Ideal
public import Idealize.ShloMosaic.Lib.IdealHost

@[expose] public section

noncomputable section

namespace Cert.Nums

open Idealize.ShloMosaic

/-- The slope of the leaky unit, 0.01 as a float. -/
def slope : ℝ := 10737418 / 2 ^ 30
/-- The least norm a row is divided by, 1e-12 as a float. -/
def tiny : ℝ := 9223372 / 2 ^ 63
/-- The least scale, 1e-30 as a float. -/
def least : ℝ := 10633824 / 2 ^ 123

theorem tiny_pos : 0 < tiny := by unfold tiny; positivity
theorem least_pos : 0 < least := by unfold least; positivity

theorem ofBits_slope : Ideal.ofBits .f32 0x3C23D70A#32 = (slope : EReal) := by
  simp [Ideal.ofBits, Ideal.ieee, slope, -EReal.coe_mul]; norm_num
theorem ofBits_tiny : Ideal.ofBits .f32 0x2B8CBCCC#32 = (tiny : EReal) := by
  simp [Ideal.ofBits, Ideal.ieee, tiny, -EReal.coe_mul]; norm_num
theorem ofBits_least : Ideal.ofBits .f32 0x0DA24260#32 = (least : EReal) := by
  simp [Ideal.ofBits, Ideal.ieee, least, -EReal.coe_mul]; norm_num
theorem ofBits_half : Ideal.ofBits .f32 0x3F000000#32 = ((1 / 2 : ℝ) : EReal) := by
  simp [Ideal.ofBits, Ideal.ieee, -EReal.coe_mul]; norm_num
theorem ofBits_255 : Ideal.ofBits .f32 0x437F0000#32 = ((255 : ℝ) : EReal) := by
  simp [Ideal.ofBits, Ideal.ieee, -EReal.coe_mul]; norm_num
theorem ofBits_127 : Ideal.ofBits .f32 0x42FE0000#32 = ((127 : ℝ) : EReal) := by
  simp [Ideal.ofBits, Ideal.ieee, -EReal.coe_mul]; norm_num
theorem ofBits_neg128 : Ideal.ofBits .f32 0xC3000000#32 = ((-128 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_bound : Ideal.ofBits .f32 0x4C800000#32 = ((67108864 : ℝ) : EReal) := by
  simp [Ideal.ofBits, Ideal.ieee, -EReal.coe_mul]; norm_num
theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]

/-- The leaky unit. -/
def leaky (x : ℝ) : ℝ := if 0 ≤ x then x else slope * x

/-- An entry's code: 255 times its distance from one half, rounded, clipped to a signed byte. -/
def code (h : ℝ) : ℤ := min 127 (max (-128) (Ideal.roundHalfEven ((h - 1 / 2) * 255)))

theorem code_bounds (h : ℝ) : -128 ≤ code h ∧ code h ≤ 127 := by
  unfold code; omega

/-- Rounding keeps a number within an integer's bounds. -/
theorem roundHalfEven_abs_le {r : ℝ} {n : ℕ} (h : |r| ≤ n) : |Ideal.roundHalfEven r| ≤ n := by
  rw [abs_le] at h
  have h1 : (-(n : ℤ)) ≤ ⌊r⌋ := by rw [Int.le_floor]; push_cast; exact h.1
  have h2 : ⌊r⌋ ≤ (n : ℤ) := by
    have := Int.floor_le r
    have h3 : ((⌊r⌋ : ℤ) : ℝ) ≤ ((n : ℤ) : ℝ) := by push_cast; linarith [h.2]
    exact_mod_cast h3
  have h4 : ⌊r⌋ = (n : ℤ) → r - ⌊r⌋ ≤ 0 := by
    intro e; rw [e]; push_cast; linarith [h.2]
  rw [abs_le]
  unfold Ideal.roundHalfEven
  simp only
  by_cases e : ⌊r⌋ = (n : ℤ)
  · have := h4 e
    rw [if_pos (by linarith)]
    omega
  · split_ifs <;> omega

/-- A code, the byte a saturating conversion gives, read back. -/
theorem toInt_fptosi_code (h : ℝ) :
    (Ideal.fptosi 8 ((Ideal.roundHalfEven ((h - 1 / 2) * 255) : ℝ) : EReal)).toInt = code h := by
  have hb := code_bounds h
  unfold Ideal.fptosi
  rw [Ideal.toIntClamped_coe]
  have : (max (-((2 ^ (8 - 1) : ℕ) : ℤ)) (min (((2 ^ (8 - 1) : ℕ) : ℤ) - 1)
      (if (0 : ℝ) ≤ (Ideal.roundHalfEven ((h - 1 / 2) * 255) : ℝ) then ⌊((Ideal.roundHalfEven ((h - 1 / 2) * 255) : ℤ) : ℝ)⌋
        else ⌈((Ideal.roundHalfEven ((h - 1 / 2) * 255) : ℤ) : ℝ)⌉))) = code h := by
    rw [Int.floor_intCast, Int.ceil_intCast, ite_self]
    unfold code; norm_num; omega
  rw [this, BitVec.toInt_ofInt]
  rw [Int.bmod_eq_of_le] <;> omega

/-- An integer within a signed byte survives a conversion to a 32-bit word and the truncation of that to a byte. -/
theorem toInt_narrow {z : ℤ} (h : |z| ≤ 127) :
    (BitVec.setWidth 8 (Ideal.fptosi 32 (((z : ℤ) : ℝ) : EReal))).toInt = z := by
  rw [abs_le] at h
  unfold Ideal.fptosi
  rw [Ideal.toIntClamped_coe, Int.floor_intCast, Int.ceil_intCast, ite_self]
  have : (max (-((2 ^ (32 - 1) : ℕ) : ℤ)) (min (((2 ^ (32 - 1) : ℕ) : ℤ) - 1) z)) = z := by norm_num; omega
  rw [this, BitVec.toInt_setWidth]
  have h1 : ((BitVec.ofInt 32 z).toNat : ℤ) = z % 2 ^ 32 := by
    rw [BitVec.toNat_ofInt, Int.toNat_of_nonneg (Int.emod_nonneg _ (by norm_num))]; norm_num
  rw [h1]
  simp only [Int.bmod]
  norm_num
  omega

/-- A layer as the kernel and as the reference write it: the integer sums, rescaled once at the end or before the product. -/
theorem layer_eq {n : ℕ} (q e : Fin n → ℝ) (s g : ℝ) :
    ((∑ k, q k * e k) * (1 / 255) + 1 / 2 * ∑ k, e k) * (s * (1 + g))
      = (∑ k, (q k / 255 + 1 / 2) * (e k * s)) + g * ∑ k, (q k / 255 + 1 / 2) * (e k * s) := by
  have : (∑ k, (q k / 255 + 1 / 2) * (e k * s)) = ((∑ k, q k * e k) * (1 / 255) + 1 / 2 * ∑ k, e k) * s := by
    rw [add_mul, Finset.sum_mul, Finset.sum_mul, Finset.mul_sum, Finset.sum_mul, ← Finset.sum_add_distrib]
    exact Finset.sum_congr rfl fun k _ => by ring
  rw [this]; ring

/-- A finite sum of reals, in the extended reals. -/
theorem coe_sum {ι : Type} (s : Finset ι) (f : ι → ℝ) : ((∑ k ∈ s, f k : ℝ) : EReal) = ∑ k ∈ s, (f k : EReal) := by
  classical
  induction s using Finset.induction with
  | empty => simp
  | insert a s ha ih => rw [Finset.sum_insert ha, Finset.sum_insert ha, EReal.coe_add, ih]

/-- A quotient of reals with a divisor that is not zero. -/
theorem div_coe {x y : ℝ} (h : y ≠ 0) : Ideal.div (x : EReal) (y : EReal) = ((x / y : ℝ) : EReal) := by
  rw [Ideal.div_coe h, ← EReal.coe_mul]; congr 1; ring

/-- The leaky unit as both programs select it. -/
theorem leaky_coe (x : ℝ) : (if 0 ≤ (x : EReal) then (x : EReal) else (slope : EReal) * (x : EReal)) = (leaky x : EReal) := by
  unfold leaky
  by_cases h : 0 ≤ x
  · rw [if_pos h, if_pos (by exact_mod_cast h)]
  · rw [if_neg h, if_neg (by exact_mod_cast h), EReal.coe_mul]

/-- A row divided by its norm, the norm kept from below. -/
theorem norm_coe {n : ℕ} (x : ℝ) (v : Fin n → ℝ) :
    Ideal.div (x : EReal) (max (Ideal.sqrt (∑ k, (v k : EReal) * (v k : EReal))) (tiny : EReal))
      = ((x / max (Real.sqrt (∑ k, v k * v k)) tiny : ℝ) : EReal) := by
  have h : (∑ k, (v k : EReal) * (v k : EReal)) = ((∑ k, v k * v k : ℝ) : EReal) := by
    rw [coe_sum]; exact Finset.sum_congr rfl fun k _ => (EReal.coe_mul _ _).symm
  have h0 : 0 ≤ ∑ k, v k * v k := Finset.sum_nonneg fun k _ => mul_self_nonneg _
  rw [h, Ideal.sqrt_coe, if_neg (not_lt.2 h0), ← EReal.coe_strictMono.monotone.map_max]
  exact div_coe (ne_of_gt (lt_of_lt_of_le tiny_pos (le_max_right _ _)))

theorem absf_coe (x : ℝ) : FloatOps.absf (F := Ideal) (φ := .f32) (x : EReal) = ((|x| : ℝ) : EReal) := by
  change max (x : EReal) (-(x : EReal)) = _
  rw [← EReal.coe_neg, ← EReal.coe_strictMono.monotone.map_max, abs]

/-- The largest of finitely many reals, folded from minus infinity, is a real, and none of them exceeds it. -/
theorem fold_max_coe {ι : Type} [Fintype ι] [Nonempty ι] (v : ι → ℝ) :
    ∃ M : ℝ, (Finset.univ : Finset ι).fold max (⊥ : EReal) (fun k => (v k : EReal)) = (M : EReal) ∧ ∀ k, v k ≤ M := by
  have hle : ∀ k, (v k : EReal) ≤ (Finset.univ : Finset ι).fold max (⊥ : EReal) (fun k => (v k : EReal)) := fun k =>
    (Finset.le_fold_max _).2 (.inr ⟨k, Finset.mem_univ k, le_rfl⟩)
  have ht : (Finset.univ : Finset ι).fold max (⊥ : EReal) (fun k => (v k : EReal)) < ⊤ :=
    (Finset.fold_max_lt _).2 ⟨bot_lt_top, fun k _ => EReal.coe_lt_top _⟩
  obtain ⟨k0⟩ := ‹Nonempty ι›
  have hb : ⊥ < (Finset.univ : Finset ι).fold max (⊥ : EReal) (fun k => (v k : EReal)) :=
    lt_of_lt_of_le (EReal.bot_lt_coe _) (hle k0)
  refine ⟨_, (EReal.coe_toReal ht.ne hb.ne').symm, fun k => ?_⟩
  rw [← EReal.coe_le_coe_iff, EReal.coe_toReal ht.ne hb.ne']
  exact hle k

end Cert.Nums
end
-- ==== Proof.Terms.lean ====
/- The stages of the computation on whole arrays, as the reference's operations write them, and what each gives on an
   array of real numbers. -/
module

public import proofs.«01_k».proof.Proof.Nums
public import proofs.«01_k».proof.Proof.Gen.ReferenceIdeal
public import Idealize.ShloMosaic.Lib.Pointwise
public import Idealize.ShloMosaic.PureOps.Ideal.Laws

@[expose] public section

set_option maxRecDepth 16384

noncomputable section

namespace Cert.Terms

open Cert.ReferenceIdeal Cert.ReferenceIdeal.Gen Cert.Nums
open Idealize.ShloMosaic Idealize.ShloMosaic.Pointwise

/-- An embedding: one row of 64 numbers per user and per item. -/
abbrev Emb := FVec Ideal S10000x64 .f32
/-- The hypergraph: 10000 by 10000 numbers. -/
abbrev Hyp := FVec Ideal S10000x10000 .f32

/-- The array `v` holds the real numbers `f`. -/
def Holds {a b : ℕ} (v : FVec Ideal ⟨2, ![a, b]⟩ .f32) (f : Fin a → Fin b → ℝ) : Prop :=
  ∀ r s, v (ix2 r s) = ((f r s : ℝ) : EReal)

/-- Two arrays that hold the same numbers are equal. -/
theorem Holds.eq {a b : ℕ} {v w : FVec Ideal ⟨2, ![a, b]⟩ .f32} {f : Fin a → Fin b → ℝ} (hv : Holds v f) (hw : Holds w f) : v = w := by
  funext i
  have h : i = ix2 (i 0) (i 1) := ValueIdx.eq_ix2 i
  rw [h]
  exact (hv _ _).trans (hw _ _).symm

/-! ## The stages -/

/-- The leaky unit. -/
def leakyT (x : Emb) : Emb :=
  select (cmpf .oge x (broadcastInDim S10000x64 ![] bcast_S_S10000x64 (constant S_ .f32 0x00000000#32))) x
    (mulf (broadcastInDim S10000x64 ![] bcast_S_S10000x64 (id (constant S_ .f32 0x3C23D70A#32))) x)

/-- Rows divided by their norms. -/
def normT (x : Emb) : Emb :=
  Host.divf x (broadcastInDim S10000x64 ![0, 1] bcast_S10000x1_S10000x64_0_1
    (maximumf (Host.sqrt (broadcastInDim S10000x1 ![0] bcast_S10000_S10000x1_0
      (Host.reduceAdd (mulf x x) (constant S_ .f32 0x00000000#32) reducesTo_S10000x64_S10000_d1 h_S_)))
      (broadcastInDim S10000x1 ![] bcast_S_S10000x1 (constant S_ .f32 0x2B8CBCCC#32))))

/-- The hypergraph's codes, as floats. -/
def codesT (H : Hyp) : Hyp :=
  minimumf (broadcastInDim S10000x10000 ![] bcast_S_S10000x10000 (id (constant S_ .f32 0x42FE0000#32)))
    (maximumf (broadcastInDim S10000x10000 ![] bcast_S_S10000x10000 (id (constant S_ .f32 0xC3000000#32)))
      (Host.roundeven (mulf (subf H (broadcastInDim S10000x10000 ![] bcast_S_S10000x10000 (constant S_ .f32 0x3F000000#32)))
        (broadcastInDim S10000x10000 ![] bcast_S_S10000x10000 (constant S_ .f32 0x437F0000#32)))))

/-- The largest magnitude of an embedding over 127, kept from below: its scale. -/
def scaleT (e : Emb) : FVec Ideal S_ .f32 :=
  maximumf (Host.divf (Host.reduce FloatOps.maximumf (Host.absf e) (constant S_ .f32 0xFF800000#32) reducesTo_S10000x64_S_d0_1 h_S_)
    (constant S_ .f32 0x42FE0000#32)) (constant S_ .f32 0x0DA24260#32)

/-- An embedding's codes, as floats. -/
def ecodesT (e : Emb) : Emb := Host.roundeven (Host.divf e (broadcastInDim S10000x64 ![] bcast_S_S10000x64 (scaleT e)))

/-- The product with the hypergraph, unquantised. -/
def front0T (H : Hyp) (e : Emb) : Emb := Host.dotGeneral dot_S10000x10000_S10000x64_S10000x64_1_0_0_1_n_n none H e

/-- The product with the hypergraph, both operands read back from their codes. -/
def frontT (H : Hyp) (e : Emb) : Emb :=
  front0T (addf (Host.divf (codesT H) (broadcastInDim S10000x10000 ![] bcast_S_S10000x10000 (constant S_ .f32 0x437F0000#32)))
      (broadcastInDim S10000x10000 ![] bcast_S_S10000x10000 (constant S_ .f32 0x3F000000#32)))
    (mulf (ecodesT e) (broadcastInDim S10000x64 ![] bcast_S_S10000x64 (scaleT e)))

/-- The next embedding of a product and the embedding it was formed with. -/
def nextT (f e : Emb) : Emb := leakyT (addf f (mulf e f))

/-- The sums of the products' magnitudes. -/
def absT (H : Hyp) (e : Emb) : Emb := front0T (Host.absf (codesT H)) (Host.absf (ecodesT e))

/-! ## On real numbers -/

variable {H : Hyp} {e f : Emb} {h : Fin 10000 → Fin 10000 → ℝ} {a b : Fin 10000 → Fin 64 → ℝ} {s : ℝ}

theorem leakyT_holds (he : Holds e a) : Holds (leakyT e) fun r k => leaky (a r k) := by
  intro r k
  pointwise [leakyT, id]
  rw [he r k, ofBits_slope, leaky_coe]

theorem nextT_holds (hf : Holds f b) (he : Holds e a) :
    Holds (nextT f e) fun r k => leaky (b r k + a r k * b r k) := by
  refine leakyT_holds fun r k => ?_
  pointwise []
  rw [hf r k, he r k, ← EReal.coe_mul, ← EReal.coe_add]

theorem normT_holds (he : Holds e a) :
    Holds (normT e) fun r k => a r k / max (Real.sqrt (∑ j, a r j * a r j)) tiny := by
  intro r k
  pointwise [normT]
  simp only [he r _, ofBits_tiny]
  exact norm_coe _ _

theorem front0T_holds (hH : Holds H h) (he : Holds e a) : Holds (front0T H e) fun r k => ∑ j, h r j * a j k := by
  intro r k
  pointwise [front0T]
  rw [coe_sum]
  exact Finset.sum_congr rfl fun j _ => by rw [hH r j, he j k, EReal.coe_mul]

theorem codesT_holds (hH : Holds H h) : Holds (codesT H) fun r k => (code (h r k) : ℝ) := by
  intro r k
  pointwise [codesT, id]
  rw [hH r k, ofBits_half, ofBits_255, ofBits_127, ofBits_neg128, ← EReal.coe_sub, ← EReal.coe_mul, Ideal.liftRound_coe,
    ← EReal.coe_strictMono.monotone.map_max, ← EReal.coe_strictMono.monotone.map_min]
  unfold code; push_cast; rfl

/-- The scale of an embedding of reals is a positive real, and 127 times it is at least every magnitude. -/
theorem scaleT_holds (he : Holds e a) : ∃ s : ℝ, 0 < s ∧ (∀ i, scaleT e i = (s : EReal)) ∧ ∀ r k, |a r k| ≤ 127 * s := by
  obtain ⟨M, hM, hle⟩ := fold_max_coe fun p : Fin 10000 × Fin 64 => |a p.1 p.2|
  refine ⟨max (M / 127) least, lt_of_lt_of_le least_pos (le_max_right _ _), fun i => ?_, fun r k => ?_⟩
  · pointwise [scaleT]
    simp only [he _ _, absf_coe, ofBits_bot, ofBits_127, ofBits_least]
    rw [hM, div_coe (by norm_num), ← EReal.coe_strictMono.monotone.map_max]
  · have h1 := hle (r, k)
    have h2 := le_max_left (M / 127) least
    simp only at h1
    linarith

theorem ecodesT_holds (he : Holds e a) (h0 : 0 < s) (hs : ∀ i, scaleT e i = (s : EReal)) :
    Holds (ecodesT e) fun r k => (Ideal.roundHalfEven (a r k / s) : ℝ) := by
  intro r k
  pointwise [ecodesT]
  rw [he r k, hs, div_coe h0.ne', Ideal.liftRound_coe]

theorem frontT_holds (hH : Holds H h) (he : Holds e a) (h0 : 0 < s) (hs : ∀ i, scaleT e i = (s : EReal)) :
    Holds (frontT H e) fun r k => ∑ j, ((code (h r j) : ℝ) / 255 + 1 / 2) * ((Ideal.roundHalfEven (a j k / s) : ℝ) * s) := by
  refine front0T_holds (fun r j => ?_) fun j k => ?_
  · pointwise []
    rw [codesT_holds hH r j, ofBits_half, ofBits_255, div_coe (by norm_num), ← EReal.coe_add]
  · pointwise []
    rw [ecodesT_holds he h0 hs j k, hs, ← EReal.coe_mul]

theorem absT_holds (hH : Holds H h) (he : Holds e a) (h0 : 0 < s) (hs : ∀ i, scaleT e i = (s : EReal)) :
    Holds (absT H e) fun r k => ((∑ j, |code (h r j)| * |Ideal.roundHalfEven (a j k / s)| : ℤ) : ℝ) := by
  intro r k
  refine Eq.trans (front0T_holds (h := fun r j => |(code (h r j) : ℝ)|) (a := fun j k => |(Ideal.roundHalfEven (a j k / s) : ℝ)|)
    (fun r j => ?_) (fun j k => ?_) r k) ?_
  · pointwise []
    rw [codesT_holds hH r j, absf_coe]
  · pointwise []
    rw [ecodesT_holds he h0 hs j k, absf_coe]
  · push_cast; rfl

end Cert.Terms
end
-- ==== Proof.HostOps.lean ====
/- The host's operations between the calls, read off the fold of buffer contents: each array a call is entered with, and
   the two results, as terms of the arrays the calls before it wrote. -/
module

public import proofs.«01_k».proof.Proof.Terms
public import proofs.«01_k».proof.Proof.Gen.KernelIdeal.Frame
public import Idealize.ShloMosaic.Lib.StableHlo.Run

@[expose] public section

set_option maxRecDepth 16384
set_option Elab.async false

noncomputable section

namespace Cert.HostOps

open Cert.KernelIdeal Cert.KernelIdeal.Gen Cert.Terms
open Idealize.ShloMosaic Idealize.ShloMosaic.TcCoe Idealize.ShloMosaic.Tactic Idealize.ShloMosaic.StableHlo

variable (m : (ℓ : Loc nD τ sig) → Buf (Elt Ideal) ℓ) (ρ : Dev nD → PrngReg) (c : Dev nD)

/-- The codes of an embedding, as bytes. -/
def ebytesT (e : Emb) : IVec S10000x64 8 := trunci 8 (fptosi 32 (ecodesT e)) natLt_8_32

/-- The scale times one more than the embedding. -/
def gateT (e : Emb) : Emb :=
  mulf (broadcastInDim S10000x64 ![] bcast_S_S10000x64 (scaleT e))
    (addf (broadcastInDim S10000x64 ![] bcast_S_S10000x64 (constant S_ .f32 0x3F800000#32)) e)

/-- The four embeddings side by side. -/
def catT (a b c d : Emb) : FVec Ideal S10000x256 .f32 :=
  concatenate S10000x256 1 [⟨S10000x64, a⟩, ⟨S10000x64, b⟩, ⟨S10000x64, c⟩, ⟨S10000x64, d⟩]
    concatenates_S10000x64_S10000x64_S10000x64_S10000x64_S10000x256_d1

/-- The users' and the items' rows, one above the other. -/
def stackT (a : FVec Ideal S6000x64 .f32) (b : FVec Ideal S4000x64 .f32) : Emb :=
  concatenate S10000x64 0 [⟨S6000x64, a⟩, ⟨S4000x64, b⟩] concatenates_S6000x64_S4000x64_S10000x64_d0

/-! ## Before the first call -/

theorem ops0_stack (W : Valuation τ sig (Elt Ideal)) :
    after hostOps0 W (Proc.devRef .tc main_v0) = stackT (W (Proc.devRef .tc main_arg1)) (W (Proc.devRef .tc main_arg2)) := by
  simp only [hostOps0]
  after_results_simp
  rfl

/-! ## The stretch after call 0 -/

theorem ops1_scale (W : Valuation τ sig (Elt Ideal)) :
    after hostOps1 W (Proc.devRef .tc main_v5) = scaleT (W (Proc.devRef .tc main_v1_0)) := by
  simp only [hostOps1]
  after_results_simp
  rfl

theorem ops1_quot (W : Valuation τ sig (Elt Ideal)) :
    after hostOps1 W (Proc.devRef .tc main_v7)
      = Host.divf (W (Proc.devRef .tc main_v1_0)) (broadcastInDim S10000x64 ![] bcast_S_S10000x64 (scaleT (W (Proc.devRef .tc main_v1_0)))) := by
  simp only [hostOps1]
  after_results_simp
  rfl

theorem ops1_1_round (W : Valuation τ sig (Elt Ideal)) :
    after hostOps1_1 W (Proc.devRef .tc main_v8) = Host.roundeven (F := Ideal) (φ := .f32) (s := S10000x64) (W (Proc.devRef .tc main_v7)) := by
  simp only [hostOps1_1, TRef.unary, TRef.toBuf, TRef.ofBuf, cast_eq]
  after_results_simp

theorem ops1_2_bytes (W : Valuation τ sig (Elt Ideal)) :
    after hostOps1_2 W (Proc.devRef .tc main_v10)
      = trunci 8 (fptosi (F := Ideal) (φ := .f32) (s := S10000x64) 32 (W (Proc.devRef .tc main_v8))) natLt_8_32 := by
  simp only [hostOps1_2]
  after_results_simp

theorem ops1_2_gate (W : Valuation τ sig (Elt Ideal)) :
    after hostOps1_2 W (Proc.devRef .tc main_v14)
      = mulf (F := Ideal) (φ := .f32) (s := S10000x64) (broadcastInDim S10000x64 ![] bcast_S_S10000x64 (W (Proc.devRef .tc main_v5)))
        (addf (broadcastInDim S10000x64 ![] bcast_S_S10000x64 (constant S_ .f32 0x3F800000#32)) (W (Proc.devRef .tc main_v1_0))) := by
  simp only [hostOps1_2]
  after_results_simp

/-! ## The stretch after call 1 -/

theorem ops2_scale (W : Valuation τ sig (Elt Ideal)) :
    after hostOps2 W (Proc.devRef .tc main_v19) = scaleT (W (Proc.devRef .tc main_v15_0)) := by
  simp only [hostOps2]
  after_results_simp
  rfl

theorem ops2_quot (W : Valuation τ sig (Elt Ideal)) :
    after hostOps2 W (Proc.devRef .tc main_v21)
      = Host.divf (W (Proc.devRef .tc main_v15_0)) (broadcastInDim S10000x64 ![] bcast_S_S10000x64 (scaleT (W (Proc.devRef .tc main_v15_0)))) := by
  simp only [hostOps2]
  after_results_simp
  rfl

theorem ops2_1_round (W : Valuation τ sig (Elt Ideal)) :
    after hostOps2_1 W (Proc.devRef .tc main_v22) = Host.roundeven (F := Ideal) (φ := .f32) (s := S10000x64) (W (Proc.devRef .tc main_v21)) := by
  simp only [hostOps2_1, TRef.unary, TRef.toBuf, TRef.ofBuf, cast_eq]
  after_results_simp

theorem ops2_2_bytes (W : Valuation τ sig (Elt Ideal)) :
    after hostOps2_2 W (Proc.devRef .tc main_v24)
      = trunci 8 (fptosi (F := Ideal) (φ := .f32) (s := S10000x64) 32 (W (Proc.devRef .tc main_v22))) natLt_8_32 := by
  simp only [hostOps2_2]
  after_results_simp

theorem ops2_2_gate (W : Valuation τ sig (Elt Ideal)) :
    after hostOps2_2 W (Proc.devRef .tc main_v28)
      = mulf (F := Ideal) (φ := .f32) (s := S10000x64) (broadcastInDim S10000x64 ![] bcast_S_S10000x64 (W (Proc.devRef .tc main_v19)))
        (addf (broadcastInDim S10000x64 ![] bcast_S_S10000x64 (constant S_ .f32 0x3F800000#32)) (W (Proc.devRef .tc main_v15_0))) := by
  simp only [hostOps2_2]
  after_results_simp

/-! ## After the last call -/

theorem ops3_users (W : Valuation τ sig (Elt Ideal)) :
    after hostOps3 W (Proc.devRef .tc main_v31)
      = extractStridedSlice S6000x256 ![0, 0] (catT (W (Proc.devRef .tc main_v0)) (W (Proc.devRef .tc main_v1_1)) (W (Proc.devRef .tc main_v15_1))
          (W (Proc.devRef .tc main_v29_1))) slices_S10000x256_S6000x256_0_0 := by
  simp only [hostOps3]
  after_results_simp
  rfl

theorem ops3_items (W : Valuation τ sig (Elt Ideal)) :
    after hostOps3 W (Proc.devRef .tc main_v32)
      = extractStridedSlice S4000x256 ![6000, 0] (catT (W (Proc.devRef .tc main_v0)) (W (Proc.devRef .tc main_v1_1)) (W (Proc.devRef .tc main_v15_1))
          (W (Proc.devRef .tc main_v29_1))) slices_S10000x256_S4000x256_6000_0 := by
  simp only [hostOps3]
  after_results_simp
  rfl

/-! ## What each call is entered with -/

theorem hyp0 : W1 m ρ c (Proc.devRef .tc main_arg0) = m ((c : Thread nD τ).loc main_arg0) := W1_args m ρ c _ (by decide)

theorem stack0 : W1 m ρ c (Proc.devRef .tc main_v0)
    = stackT (m ((c : Thread nD τ).loc main_arg1)) (m ((c : Thread nD τ).loc main_arg2)) := by
  rw [W1, ops0_stack]

theorem bytes1 : W5 m ρ c (Proc.devRef .tc main_v10) = ebytesT (W2 m ρ c (Proc.devRef .tc main_v1_0)) := by
  rw [W5, ops1_2_bytes, W4, ops1_1_round, W3, ops1_quot]
  rfl

theorem gate1 : W5 m ρ c (Proc.devRef .tc main_v14) = gateT (W2 m ρ c (Proc.devRef .tc main_v1_0)) := by
  rw [W5, ops1_2_gate, W4_of m ρ c main_v5 (by decide), W4_of m ρ c main_v1_0 (by decide), W3_of m ρ c main_v1_0 (by decide), W3, ops1_scale]
  rfl

theorem bytes2 : W9 m ρ c (Proc.devRef .tc main_v24) = ebytesT (W6 m ρ c (Proc.devRef .tc main_v15_0)) := by
  rw [W9, ops2_2_bytes, W8, ops2_1_round, W7, ops2_quot]
  rfl

theorem gate2 : W9 m ρ c (Proc.devRef .tc main_v28) = gateT (W6 m ρ c (Proc.devRef .tc main_v15_0)) := by
  rw [W9, ops2_2_gate, W8_of m ρ c main_v19 (by decide), W8_of m ρ c main_v15_0 (by decide), W7_of m ρ c main_v15_0 (by decide), W7, ops2_scale]
  rfl

theorem emb1 : W2 m ρ c (Proc.devRef .tc main_v1_0) = (dat0 (V1 m ρ) c).arrAt 3 cfg0.N := W2_arr m ρ c 3
theorem unit1 : W2 m ρ c (Proc.devRef .tc main_v1_1) = (dat0 (V1 m ρ) c).arrAt 4 cfg0.N := W2_arr m ρ c 4
theorem emb2 : W6 m ρ c (Proc.devRef .tc main_v15_0) = (dat1 (V5 m ρ) c).arrAt 3 cfg1.N := W6_arr m ρ c 3
theorem unit2 : W6 m ρ c (Proc.devRef .tc main_v15_1) = (dat1 (V5 m ρ) c).arrAt 4 cfg1.N := W6_arr m ρ c 4
theorem unit3 : W10 m ρ c (Proc.devRef .tc main_v29_1) = (dat2 (V9 m ρ) c).arrAt 4 cfg2.N := W10_arr m ρ c 4

theorem hyp1 : W5 m ρ c (Proc.devRef .tc main_v1_2) = (dat0 (V1 m ρ) c).arrAt 5 cfg0.N := by
  rw [W5_of m ρ c _ (by decide), W4_of m ρ c _ (by decide), W3_of m ρ c _ (by decide)]
  exact W2_arr m ρ c 5

theorem hyp2 : W9 m ρ c (Proc.devRef .tc main_v1_2) = (dat0 (V1 m ρ) c).arrAt 5 cfg0.N := by
  rw [W9_of m ρ c _ (by decide), W8_of m ρ c _ (by decide), W7_of m ρ c _ (by decide), W6_of m ρ c _ (by decide)]
  exact hyp1 m ρ c

/-! ## The results -/

theorem keep0 : W10 m ρ c (Proc.devRef .tc main_v0) = W1 m ρ c (Proc.devRef .tc main_v0) := by
  rw [W10_of m ρ c _ (by decide), W9_of m ρ c _ (by decide), W8_of m ρ c _ (by decide), W7_of m ρ c _ (by decide),
    W6_of m ρ c _ (by decide), W5_of m ρ c _ (by decide), W4_of m ρ c _ (by decide), W3_of m ρ c _ (by decide), W2_of m ρ c _ (by decide)]

theorem keep1 : W10 m ρ c (Proc.devRef .tc main_v1_1) = (dat0 (V1 m ρ) c).arrAt 4 cfg0.N := by
  rw [W10_of m ρ c _ (by decide), W9_of m ρ c _ (by decide), W8_of m ρ c _ (by decide), W7_of m ρ c _ (by decide),
    W6_of m ρ c _ (by decide), W5_of m ρ c _ (by decide), W4_of m ρ c _ (by decide), W3_of m ρ c _ (by decide)]
  exact unit1 m ρ c

theorem keep2 : W10 m ρ c (Proc.devRef .tc main_v15_1) = (dat1 (V5 m ρ) c).arrAt 4 cfg1.N := by
  rw [W10_of m ρ c _ (by decide), W9_of m ρ c _ (by decide), W8_of m ρ c _ (by decide), W7_of m ρ c _ (by decide)]
  exact unit2 m ρ c

/-- The four embeddings side by side, as the kernel leaves them. -/
def all : FVec Ideal S10000x256 .f32 :=
  catT (stackT (m ((c : Thread nD τ).loc main_arg1)) (m ((c : Thread nD τ).loc main_arg2))) ((dat0 (V1 m ρ) c).arrAt 4 cfg0.N)
    ((dat1 (V5 m ρ) c).arrAt 4 cfg1.N) ((dat2 (V9 m ρ) c).arrAt 4 cfg2.N)

theorem users : W11 m ρ c (Proc.devRef .tc main_v31) = extractStridedSlice S6000x256 ![0, 0] (all m ρ c) slices_S10000x256_S6000x256_0_0 := by
  rw [W11, ops3_users, keep0, keep1, keep2, unit3, stack0]
  rfl

theorem items : W11 m ρ c (Proc.devRef .tc main_v32) = extractStridedSlice S4000x256 ![6000, 0] (all m ρ c) slices_S10000x256_S4000x256_6000_0 := by
  rw [W11, ops3_items, keep0, keep1, keep2, unit3, stack0]
  rfl

end Cert.HostOps
end
-- ==== Proof.Stages.lean ====
/- The reference's results as the stages of Terms.lean, and the precondition read as facts about real numbers. -/
module

public import proofs.«01_k».proof.Proof.HostOps
public import proofs.«01_k».proof.Proof.Gen.ReferenceIdeal.Run
public import proofs.«01_k».proof.Proof.Gen.Pre_finite_and_in_range

@[expose] public section

set_option maxRecDepth 16384

noncomputable section

namespace Cert.Stages

open Cert.ReferenceIdeal Cert.ReferenceIdeal.Gen Cert.Nums Cert.Terms Cert.HostOps
open Idealize.ShloMosaic Idealize.ShloMosaic.TcCoe Idealize.ShloMosaic.StableHlo Idealize.ShloMosaic.Pointwise

/-- The first layer's embedding. -/
def E1 (H : Hyp) (e : Emb) : Emb := nextT (front0T H e) e
/-- A later layer's embedding. -/
def Eq (H : Hyp) (e : Emb) : Emb := nextT (frontT H e) e

/-- All four embeddings of the stacked users and items. -/
def total (H : Hyp) (e : Emb) : FVec Ideal S10000x256 .f32 :=
  catT e (normT (E1 H e)) (normT (Eq H (E1 H e))) (normT (Eq H (Eq H (E1 H e))))

/-! ## The reference -/

section
open Cert.ReferenceIdeal.Value
variable (V : Valuation τ sig (Elt Ideal))

/-- The reference's intermediate arrays, one stage each, and its result before the rows are split. -/
theorem ref0 : res_main_v0 V = stackT (V (Proc.devRef .tc main_arg1)) (V (Proc.devRef .tc main_arg2)) := rfl
theorem ref1 : res_main_v4 V = E1 (V (Proc.devRef .tc main_arg0)) (res_main_v0 V) := rfl
theorem ref2 : res_main_v36 V = Eq (V (Proc.devRef .tc main_arg0)) (res_main_v4 V) := rfl
theorem ref3 : res_main_v68 V = Eq (V (Proc.devRef .tc main_arg0)) (res_main_v36 V) := rfl
theorem refAll : res_main_v74 V = catT (res_main_v0 V) (normT (res_main_v4 V)) (normT (res_main_v36 V)) (normT (res_main_v68 V)) := rfl

theorem ref_total : res_main_v74 V
    = total (V (Proc.devRef .tc main_arg0)) (stackT (V (Proc.devRef .tc main_arg1)) (V (Proc.devRef .tc main_arg2))) := by
  rw [refAll, ref3, ref2, ref1, ref0]
  rfl
end

/-! ## The precondition -/

theorem ofBool_decide {p : Prop} [Decidable p] : (BitVec.ofBool (decide p) = 1#1) = p := by
  by_cases h : p <;> simp [h]

/-- An array of which every magnitude is below infinity is an array of reals. -/
theorem real_of_lt {s : Shape} (x : FVec Ideal s .f32) (hb : S_.BroadcastsInDim s ![])
    (h : cmpf .olt (Host.absf x) (broadcastInDim s ![] hb (constant S_ .f32 0x7F800000#32)) = fun _ => 1#1) (i : s.Idx) :
    ∃ r : ℝ, x i = (r : EReal) := by
  have h1 := congrFun h i
  revert h1
  pointwise []
  rw [ofBits_top, ofBool_decide]
  change max (x i) (-(x i)) < ⊤ → _
  generalize (x i : EReal) = y
  intro h2
  induction y using EReal.rec with
  | bot => simp at h2
  | coe r => exact ⟨r, rfl⟩
  | top => simp at h2

/-- An array of integers that passes the comparison with 2^26 is bounded by it. -/
theorem le_of_bound (x : Emb) {f : Fin 10000 → Fin 64 → ℤ} (hx : Holds x fun r k => (f r k : ℝ))
    (h : cmpf .ole x (broadcastInDim S10000x64 ![] bcast_S_S10000x64 (constant S_ .f32 0x4C800000#32)) = fun _ => 1#1) (r : Fin 10000) (k : Fin 64) :
    f r k ≤ 67108864 := by
  have h1 := congrFun h (ix2 r k)
  revert h1
  pointwise []
  rw [hx r k, ofBits_bound, ofBool_decide, EReal.coe_le_coe_iff]
  intro h2
  beta_reduce at h2
  exact_mod_cast h2

/-- An array whose every entry is real holds some real numbers. -/
theorem holds_of_real {a b : ℕ} (v : FVec Ideal ⟨2, ![a, b]⟩ .f32) (h : ∀ i, ∃ r : ℝ, v i = (r : EReal)) :
    ∃ f : Fin a → Fin b → ℝ, Holds v f :=
  ⟨fun r k => (h (ix2 r k)).choose, fun r k => (h (ix2 r k)).choose_spec⟩

/-- Users and items that are real stay so when stacked. -/
theorem stack_real (u : FVec Ideal S6000x64 .f32) (i : FVec Ideal S4000x64 .f32) (hu : ∀ j, ∃ r : ℝ, u j = (r : EReal))
    (hi : ∀ j, ∃ r : ℝ, i j = (r : EReal)) (j : S10000x64.Idx) : ∃ r : ℝ, stackT u i j = (r : EReal) :=
  concatenate_forall (P := fun x : EReal => ∃ r : ℝ, x = (r : EReal)) _ _ _ _ (fun p hp => by
    simp only [List.mem_cons, List.not_mem_nil, or_false] at hp
    rcases hp with rfl | rfl
    · exact hu
    · exact hi) j

/-- The predicate's five results. -/
theorem pre_parts (H : Hyp) (u : FVec Ideal S6000x64 .f32) (i : FVec Ideal S4000x64 .f32) (w1 w2 w3 : FVec Ideal S64x64 .f32)
    (b1 b2 b3 : FVec Ideal S64 .f32) :
    Cert.Pre_finite_and_in_range.fn (F := Ideal) H u i w1 b1 w2 b2 w3 b3
      = (cmpf .olt (Host.absf H) (broadcastInDim S10000x10000 ![] bcast_S_S10000x10000 (constant S_ .f32 0x7F800000#32)),
         cmpf .olt (Host.absf u) (broadcastInDim S6000x64 ![] Cert.Pre_finite_and_in_range.Facts.bcast_S_S6000x64 (constant S_ .f32 0x7F800000#32)),
         cmpf .olt (Host.absf i) (broadcastInDim S4000x64 ![] Cert.Pre_finite_and_in_range.Facts.bcast_S_S4000x64 (constant S_ .f32 0x7F800000#32)),
         cmpf .ole (absT H (E1 H (stackT u i))) (broadcastInDim S10000x64 ![] bcast_S_S10000x64 (constant S_ .f32 0x4C800000#32)),
         cmpf .ole (absT H (Eq H (E1 H (stackT u i)))) (broadcastInDim S10000x64 ![] bcast_S_S10000x64 (constant S_ .f32 0x4C800000#32))) := rfl

end Cert.Stages
end
-- ==== Proof.Pay.lean ====
/- What one grid step stores, on blocks of real numbers: the payloads of the three calls read at an index. -/
module

public import proofs.«01_k».proof.Proof.Nums
public import proofs.«01_k».proof.Proof.Terms
public import proofs.«01_k».proof.Proof.Gen.KernelIdeal.Skeleton
public import Idealize.ShloMosaic.Lib.Pointwise
public import Idealize.ShloMosaic.Lib.IntMxu
public import Idealize.ShloMosaic.PureOps.IdealRules

@[expose] public section

set_option maxRecDepth 16384

noncomputable section

namespace Cert.Pay

open Cert.KernelIdeal Cert.KernelIdeal.Gen Cert.Nums Cert.Terms
open Idealize.ShloMosaic Idealize.ShloMosaic.Pointwise

variable {H : Vec Ideal S400x10000 .f32} {e : Vec Ideal S10000x64 .f32} {g : Vec Ideal S400x64 .f32}
variable {h : Fin 400 → Fin 10000 → ℝ} {a : Fin 10000 → Fin 64 → ℝ} {b : Fin 400 → Fin 64 → ℝ}

/-- The first layer's block. -/
theorem pay2_holds (hH : Holds (a := 400) (b := 10000) H h) (he : Holds (a := 10000) (b := 64) e a) (hg : Holds (a := 400) (b := 64) g b) :
    Holds (a := 400) (b := 64) (k0_pay2 H e g) fun r k => leaky ((∑ j, h r j * a j k) * (1 + b r k)) := by
  intro r k
  pointwise [k0_pay2]
  have hs : (∑ j, H (ix2 r j) * e (ix2 j k)) = ((∑ j, h r j * a j k : ℝ) : EReal) := by
    rw [coe_sum]; exact Finset.sum_congr rfl fun j _ => by rw [hH r j, he j k, EReal.coe_mul]
  rw [hs, hg r k, ofBits_slope, ← EReal.coe_one, ← EReal.coe_add, ← EReal.coe_mul, leaky_coe]

/-- The first layer's block, its rows divided by their norms. -/
theorem pay3_holds {c : Fin 400 → Fin 64 → ℝ} (hc : Holds (a := 400) (b := 64) (k0_pay2 H e g) c) :
    Holds (a := 400) (b := 64) (k0_pay3 H e g) fun r k => c r k / max (Real.sqrt (∑ j, c r j * c r j)) tiny := by
  intro r k
  pointwise [k0_pay3]
  simp only [hc r _, ofBits_tiny]
  exact norm_coe _ _

/-- The hypergraph's block of codes. -/
theorem pay1_toInt (hH : Holds (a := 400) (b := 10000) H h) (r : Fin 400) (k : Fin 10000) :
    (k0_pay1 H (ix3 0 r k)).toInt = code (h r k) := by
  pointwise [k0_pay1]
  rw [hH r k, ofBits_half, ofBits_255, ← EReal.coe_sub, ← EReal.coe_mul, Ideal.liftRound_coe]
  exact toInt_fptosi_code _

variable {E : Vec Ideal S10000x64 .i8} {Q : Vec Ideal S1x400x10000 .i8} {z : Fin 10000 → Fin 64 → ℤ} {q : Fin 400 → Fin 10000 → ℤ}

theorem inv255 : Named.named (F := Ideal) Cert.KernelIdeal.κ "inv_255" (φ := .f32) 0x3B808081#32 = ((1 / 255 : ℝ) : EReal) :=
  IdealRules.named_const.ideal_named_scalar _ _ _ _ rfl

theorem lhsIdx_eq (r : Fin 400) (k : Fin 64) (j : Fin 10000) :
    dot_S400x10000_S10000x64_S400x64_1_0_0_1_n_n.lhsIdx (ix2 r k)
      (dot_S400x10000_S10000x64_S400x64_1_0_0_1_n_n.contrIdx₁ (a := 1) rfl (K := 10000) rfl j) = ix2 r j := by
  funext p
  exact match p with | 0 => rfl | 1 => rfl

theorem rhsIdx_eq (r : Fin 400) (k : Fin 64) (j : Fin 10000) :
    dot_S400x10000_S10000x64_S400x64_1_0_0_1_n_n.rhsIdx (ix2 r k)
      (dot_S400x10000_S10000x64_S400x64_1_0_0_1_n_n.contrIdx₁ (a := 1) rfl (K := 10000) rfl j) = ix2 j k := by
  funext p
  exact match p with | 0 => rfl | 1 => rfl

/-- The integer product of a block, where the sums of the products' magnitudes are within the chip's exact range. -/
theorem dot_toInt (hE : ∀ j k, (E (ix2 j k)).toInt = z j k) (hQ : ∀ r j, (Q (ix3 0 r j)).toInt = q r j)
    {r : Fin 400} {k : Fin 64} (hb : ∑ j, |q r j| * |z j k| ≤ 67108864) :
    (matmulI8 IntMxuNumerics.v5e dot_S400x10000_S10000x64_S400x64_1_0_0_1_n_n
      (shapeCast S400x10000 Q shapeCasts_S1x400x10000_S400x10000) E (constantI S400x64 32 0#32) (ix2 r k)).toInt
      = ∑ j, q r j * z j k := by
  have hQ' : ∀ j, (shapeCast S400x10000 Q shapeCasts_S1x400x10000_S400x10000 (ix2 r j)).toInt = q r j := by
    intro j; pointwise []; exact hQ r j
  refine (matmulI8_toInt IntMxuNumerics.v5e _ _ _ _ _ rfl ?_ (by decide)).trans ?_
  rotate_left
  · unfold dotI8
    rw [DotDims.sum_contr₁ _ (a := 1) rfl (K := 10000) rfl]
    refine Finset.sum_congr rfl fun j _ => ?_
    rw [← hQ' j, ← hE j k, ← lhsIdx_eq r k j, ← rhsIdx_eq r k j]
  · unfold absDotI8
    rw [DotDims.sum_contr₁ _ (a := 1) rfl (K := 10000) rfl]
    have : (∑ j : Fin 10000, ((q r j).natAbs * (z j k).natAbs) : ℕ) ≤ 67108864 := by
      zify
      exact hb
    refine le_trans (le_of_eq ?_) this
    refine Finset.sum_congr rfl fun j _ => ?_
    rw [← hQ' j, ← hE j k, ← Int.natAbs_mul, ← lhsIdx_eq r k j, ← rhsIdx_eq r k j]

/-- A later layer's block. -/
theorem payq_holds (hE : ∀ j k, (E (ix2 j k)).toInt = z j k) (hQ : ∀ r j, (Q (ix3 0 r j)).toInt = q r j)
    (hg : Holds (a := 400) (b := 64) g b) (hb : ∀ r k, ∑ j, |q r j| * |z j k| ≤ 67108864) :
    Holds (a := 400) (b := 64) (k1_pay1 E Q g) fun r k =>
      leaky (((∑ j, (q r j : ℝ) * (z j k : ℝ)) * (1 / 255) + 1 / 2 * ∑ j, (z j k : ℝ)) * b r k) := by
  intro r k
  pointwise [k1_pay1]
  have hs : (∑ j, FloatOps.sitofp (F := Ideal) FTy.f32 (E (ix2 j k))) = ((∑ j, (z j k : ℝ) : ℝ) : EReal) := by
    rw [coe_sum]
    refine Finset.sum_congr rfl fun j _ => ?_
    rw [← hE j k]; rfl
  have hd : FloatOps.sitofp (F := Ideal) FTy.f32 (matmulI8 IntMxuNumerics.v5e dot_S400x10000_S10000x64_S400x64_1_0_0_1_n_n
      (shapeCast S400x10000 Q shapeCasts_S1x400x10000_S400x10000) E (constantI S400x64 32 0#32) (ix2 r k))
      = ((∑ j, (q r j : ℝ) * (z j k : ℝ) : ℝ) : EReal) := by
    have := dot_toInt hE hQ (hb r k)
    change (((_ : ℤ) : ℝ) : EReal) = _
    rw [this]; push_cast; rfl
  rw [hs, hd, inv255, hg r k, ofBits_slope, ofBits_half, ← EReal.coe_mul, ← EReal.coe_mul, ← EReal.coe_add, ← EReal.coe_mul, leaky_coe]

/-- A later layer's block, its rows divided by their norms. -/
theorem payq2_holds {c : Fin 400 → Fin 64 → ℝ} (hc : Holds (a := 400) (b := 64) (k1_pay1 E Q g) c) :
    Holds (a := 400) (b := 64) (k1_pay2 E Q g) fun r k => c r k / max (Real.sqrt (∑ j, c r j * c r j)) tiny := by
  intro r k
  pointwise [k1_pay2]
  simp only [hc r _, ofBits_tiny]
  exact norm_coe _ _

theorem k2_pay1_eq : @k2_pay1 = @k1_pay1 := rfl
theorem k2_pay2_eq : @k2_pay2 = @k1_pay2 := rfl

end Cert.Pay
end
-- ==== Proof.Region0.lean ====
/- The first call's three result arrays, on a hypergraph and an embedding of real numbers. -/
module

public import proofs.«01_k».proof.Proof.Pay
public import proofs.«01_k».proof.Proof.Gen.KernelIdeal.Frame
public import Idealize.ShloMosaic.Lib.Pipeline.ValueKit

@[expose] public section

set_option maxRecDepth 16384

noncomputable section

namespace Cert.Region0

open Cert.KernelIdeal Cert.KernelIdeal.Gen Cert.Nums Cert.Terms Cert.Pay
open Idealize.ShloMosaic Idealize.ShloMosaic.Pointwise
open Idealize.ShloMosaic.Pipeline (Dat Cfg Window)

variable (V : Dev nD → (r : Ref sig .tc) → r.ty.Contents (Elt Ideal)) (c : Dev nD)
variable {h : Fin 10000 → Fin 10000 → ℝ} {a : Fin 10000 → Fin 64 → ℝ}

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0, 0] :=
  (by decide +kernel : ∀ t : Fin grid0.N, _)

/-- The row of the array that row `r` of block `t` is. -/
def row (t : Fin cfg0.N) (r : Fin 400) : Fin 10000 :=
  ⟨t.val * 400 + r.val, by have h1 : t.val < 25 := t.isLt; have h2 := r.isLt; omega⟩

theorem blkH (hH : Holds (a := 10000) (b := 10000) (V c main_arg0) h) (t : Fin cfg0.N) :
    Holds (a := 400) (b := 10000) (iblk0 V c 0 t) fun r k => h (row t r) k := by
  intro r k
  refine Eq.trans ?_ (hH (row t r) k)
  blk_ext [iblk0, idx t, row]

theorem blkE (he : Holds (a := 10000) (b := 64) (V c main_v0) a) (t : Fin cfg0.N) :
    Holds (a := 10000) (b := 64) (iblk0 V c 1 t) a := by
  intro r k
  refine Eq.trans ?_ (he r k)
  blk_ext [iblk0, idx t]

theorem blkG (he : Holds (a := 10000) (b := 64) (V c main_v0) a) (t : Fin cfg0.N) :
    Holds (a := 400) (b := 64) (iblk0 V c 2 t) fun r k => a (row t r) k := by
  intro r k
  refine Eq.trans ?_ (he (row t r) k)
  blk_ext [iblk0, idx t, row]

/-- The next embedding, in reals. -/
def next (h : Fin 10000 → Fin 10000 → ℝ) (a : Fin 10000 → Fin 64 → ℝ) (r : Fin 10000) (k : Fin 64) : ℝ :=
  leaky ((∑ j, h r j * a j k) * (1 + a r k))

/-- A later layer's embedding as the kernel computes it, in reals: of the codes `code (h r j)` and `z j k`, and the gate `b`. -/
def nextq (h : Fin 10000 → Fin 10000 → ℝ) (z : Fin 10000 → Fin 64 → ℤ) (b : Fin 10000 → Fin 64 → ℝ) (r : Fin 10000) (k : Fin 64) : ℝ :=
  leaky (((∑ j, (code (h r j) : ℝ) * (z j k : ℝ)) * (1 / 255) + 1 / 2 * ∑ j, (z j k : ℝ)) * b r k)

/-- A row divided by its norm, in reals. -/
def unit (a : Fin 10000 → Fin 64 → ℝ) (r : Fin 10000) (k : Fin 64) : ℝ :=
  a r k / max (Real.sqrt (∑ j, a r j * a r j)) tiny

/-- An array of reals. -/
def arr (f : Fin 10000 → Fin 64 → ℝ) : (⟨2, ![10000, 64]⟩ : Shape).Idx → EReal := fun i => ((f (i 0) (i 1) : ℝ) : EReal)

theorem arr_holds (f : Fin 10000 → Fin 64 → ℝ) : Holds (a := 10000) (b := 64) (arr f) f := fun _ _ => rfl

/-- The embedding the call writes. -/
theorem emb_holds (hH : Holds (a := 10000) (b := 10000) (V c main_arg0) h) (he : Holds (a := 10000) (b := 64) (V c main_v0) a) :
    Holds (a := 10000) (b := 64) ((dat0 V c).arrAt 3 cfg0.N) (next h a) := by
  have : (dat0 V c).arrAt 3 cfg0.N = arr (next h a) := by
    refine (dat0 V c).arrAt_eq_of_covers 3 _ (by decide +kernel) fun t _ y => ?_
    blk_simp
    rw [after0_3]
    frame_out
    have hy : y = ix2 (y 0) (y 1) := ValueIdx.eq_ix2 y
    rw [hy]
    refine (pay2_holds (blkH V c hH t) (blkE V c he t) (blkG V c he t) (y 0) (y 1)).trans ?_
    refine Eq.trans ?_ (congrArg (arr (next h a)) (?_ : ix2 (row t (y 0)) (y 1) = _))
    · rfl
    · blk_ext [idx t, row]
  rw [this]
  exact arr_holds _

/-- The normalised embedding the call writes. -/
theorem unit_holds (hH : Holds (a := 10000) (b := 10000) (V c main_arg0) h) (he : Holds (a := 10000) (b := 64) (V c main_v0) a) :
    Holds (a := 10000) (b := 64) ((dat0 V c).arrAt 4 cfg0.N) (unit (next h a)) := by
  have : (dat0 V c).arrAt 4 cfg0.N = arr (unit (next h a)) := by
    refine (dat0 V c).arrAt_eq_of_covers 4 _ (by decide +kernel) fun t _ y => ?_
    blk_simp
    rw [after0_4]
    frame_out
    have hy : y = ix2 (y 0) (y 1) := ValueIdx.eq_ix2 y
    rw [hy]
    refine (pay3_holds (pay2_holds (blkH V c hH t) (blkE V c he t) (blkG V c he t)) (y 0) (y 1)).trans ?_
    refine Eq.trans ?_ (congrArg (arr (unit (next h a))) (?_ : ix2 (row t (y 0)) (y 1) = _))
    · rfl
    · blk_ext [idx t, row]
  rw [this]
  exact arr_holds _

/-- The codes the call writes, as bytes. -/
def codes (h : Fin 10000 → Fin 10000 → ℝ) : (⟨3, ![25, 400, 10000]⟩ : Shape).Idx → BitVec 8 :=
  fun i => BitVec.ofInt 8 (code (h (row (i 0) (i 1)) (i 2)))

theorem codes_eq (hH : Holds (a := 10000) (b := 10000) (V c main_arg0) h) : (dat0 V c).arrAt 5 cfg0.N = codes h := by
  refine (dat0 V c).arrAt_eq_of_covers 5 _ (by decide +kernel) fun t _ y => ?_
  blk_simp
  rw [after0_5]
  frame_out
  have hy : y = ix3 (y 0) (y 1) (y 2) := ValueIdx.eq_ix3 y
  have h0 : y 0 = (0 : Fin 1) := Subsingleton.elim (α := Fin 1) _ _
  rw [hy, h0]
  refine Eq.trans (b := BitVec.ofInt 8 (code (h (row t (y 1)) (y 2)))) ?_ ?_
  · refine BitVec.eq_of_toInt_eq ((pay1_toInt (blkH V c hH t) (y 1) (y 2)).trans ?_)
    have := code_bounds (h (row t (y 1)) (y 2))
    rw [BitVec.toInt_ofInt, Int.bmod_eq_of_le] <;> omega
  · refine Eq.trans ?_ (congrArg (codes h) (?_ : ix3 t (y 1) (y 2) = _))
    · rfl
    · blk_ext [idx t, row]

theorem codes_toInt (t : Fin 25) (r : Fin 400) (k : Fin 10000) : (codes h (ix3 t r k)).toInt = code (h (row t r) k) := by
  have := code_bounds (h (row t r) k)
  change (BitVec.ofInt 8 (code (h (row t r) k))).toInt = _
  rw [BitVec.toInt_ofInt, Int.bmod_eq_of_le] <;> omega

end Cert.Region0
end
-- ==== Proof.Layers.lean ====
/- A layer as the kernel computes it and as the reference states it give the same array: the first layer by distributing a
   product, a later one by rescaling integer sums once at the end instead of every factor before. -/
module

public import proofs.«01_k».proof.Proof.Stages
public import proofs.«01_k».proof.Proof.Region0

@[expose] public section

set_option maxRecDepth 16384

noncomputable section

namespace Cert.Layers

open Cert.Nums Cert.Terms Cert.HostOps Cert.Stages
open Cert.Region0 (next nextq unit)
open Idealize.ShloMosaic Idealize.ShloMosaic.Pointwise

variable {H : Hyp} {e : Emb} {h : Fin 10000 → Fin 10000 → ℝ} {a : Fin 10000 → Fin 64 → ℝ}

/-- The first layer. -/
theorem E1_holds (hH : Holds H h) (he : Holds e a) : Holds (E1 H e) (next h a) := by
  intro r k
  refine (nextT_holds (front0T_holds hH he) he r k).trans ?_
  unfold next
  beta_reduce
  rw [mul_add, mul_one, mul_comm (a r k)]

/-- The rows over their norms. -/
theorem unit_holds (he : Holds e a) : Holds (normT e) (unit a) := normT_holds he

/-- A later layer: the codes of an embedding fit a byte and are read back as they are, the gate is real, the sums of
    magnitudes are the ones the precondition bounds, and the layer of these codes and this gate is the reference's. -/
theorem Eq_holds (hH : Holds H h) (he : Holds e a)
    (hb : cmpf .ole (absT H e) (broadcastInDim Cert.ReferenceIdeal.S10000x64 ![] Cert.ReferenceIdeal.Gen.bcast_S_S10000x64
      (constant Cert.ReferenceIdeal.S_ .f32 0x4C800000#32)) = fun _ => 1#1) :
    ∃ (z : Fin 10000 → Fin 64 → ℤ) (b : Fin 10000 → Fin 64 → ℝ), (∀ j k, (ebytesT e (ix2 j k) : BitVec 8).toInt = z j k)
      ∧ Holds (gateT e) b ∧ (∀ r k, ∑ j, |code (h r j)| * |z j k| ≤ 67108864) ∧ Holds (Eq H e) (nextq h z b) := by
  obtain ⟨s, h0, hs, hle⟩ := scaleT_holds he
  refine ⟨fun j k => Ideal.roundHalfEven (a j k / s), fun r k => s * (1 + a r k), fun j k => ?_, fun r k => ?_,
    le_of_bound _ (absT_holds hH he h0 hs) hb, fun r k => ?_⟩
  · have hz : |Ideal.roundHalfEven (a j k / s)| ≤ ((127 : ℕ) : ℤ) := by
      refine roundHalfEven_abs_le ?_
      rw [abs_div, abs_of_pos h0, div_le_iff₀ h0]
      exact_mod_cast hle j k
    refine Eq.trans (congrArg BitVec.toInt ?_) (toInt_narrow (by exact_mod_cast hz))
    pointwise [ebytesT]
    rw [ecodesT_holds he h0 hs j k]
    rfl
  · pointwise [gateT]
    rw [he r k, hs, ← EReal.coe_one, ← EReal.coe_add, ← EReal.coe_mul]
  · refine (nextT_holds (frontT_holds hH he h0 hs) he r k).trans ?_
    unfold nextq
    rw [layer_eq]

end Cert.Layers
end
-- ==== Proof.Region1.lean ====
/- The results of call 2 (a later layer), on the hypergraph's codes and an embedding's codes. -/
module

public import proofs.«01_k».proof.Proof.Region0

@[expose] public section

set_option maxRecDepth 16384

noncomputable section

namespace Cert.Region1

open Cert.KernelIdeal Cert.KernelIdeal.Gen Cert.Nums Cert.Terms Cert.Pay
open Cert.Region0 (row unit arr arr_holds codes codes_toInt nextq)
open Idealize.ShloMosaic Idealize.ShloMosaic.Pointwise
open Idealize.ShloMosaic.Pipeline (Dat Cfg Window)

variable (V : Dev nD → (r : Ref sig .tc) → r.ty.Contents (Elt Ideal)) (c : Dev nD)
variable {h : Fin 10000 → Fin 10000 → ℝ} {z : Fin 10000 → Fin 64 → ℤ} {b : Fin 10000 → Fin 64 → ℝ}

theorem idx : ∀ t : Fin cfg1.N, win1_0.index t = ![t.val, 0, 0] ∧ win1_1.index t = ![0, 0] ∧ win1_2.index t = ![t.val, 0]
    ∧ win1_3.index t = ![t.val, 0] ∧ win1_4.index t = ![t.val, 0] :=
  (by decide +kernel : ∀ t : Fin grid1.N, _)

theorem blkQ (hQ : V c main_v1_2 = codes h) (t : Fin cfg1.N) (r : Fin 400) (j : Fin 10000) :
    (iblk1 V c 0 t (ix3 0 r j) : BitVec 8).toInt = code (h (row t r) j) := by
  refine Eq.trans (congrArg BitVec.toInt ?_) (codes_toInt (h := h) t r j)
  rw [← hQ]
  blk_ext [iblk1, idx t]

theorem blkE (hz : ∀ j k, (V c main_v10 (ix2 j k) : BitVec 8).toInt = z j k) (t : Fin cfg1.N) (j : Fin 10000) (k : Fin 64) :
    (iblk1 V c 1 t (ix2 j k) : BitVec 8).toInt = z j k := by
  refine Eq.trans (congrArg BitVec.toInt ?_) (hz j k)
  blk_ext [iblk1, idx t]

theorem blkG (hb : Holds (a := 10000) (b := 64) (V c main_v14) b) (t : Fin cfg1.N) :
    Holds (a := 400) (b := 64) (iblk1 V c 2 t) fun r k => b (row t r) k := by
  intro r k
  refine Eq.trans ?_ (hb (row t r) k)
  blk_ext [iblk1, idx t, row]

/-- The block one step computes. -/
theorem blk_holds (hQ : V c main_v1_2 = codes h) (hz : ∀ j k, (V c main_v10 (ix2 j k) : BitVec 8).toInt = z j k)
    (hb : Holds (a := 10000) (b := 64) (V c main_v14) b) (hle : ∀ r k, ∑ j, |code (h r j)| * |z j k| ≤ 67108864) (t : Fin cfg1.N) :
    Holds (a := 400) (b := 64) (k1_pay1 (iblk1 V c 1 t) (iblk1 V c 0 t) (iblk1 V c 2 t)) fun r k => nextq h z b (row t r) k :=
  payq_holds (blkE V c hz t) (blkQ V c hQ t) (blkG V c hb t) fun r k => hle (row t r) k

/-- The embedding the call writes. -/
theorem emb_holds (hQ : V c main_v1_2 = codes h) (hz : ∀ j k, (V c main_v10 (ix2 j k) : BitVec 8).toInt = z j k)
    (hb : Holds (a := 10000) (b := 64) (V c main_v14) b) (hle : ∀ r k, ∑ j, |code (h r j)| * |z j k| ≤ 67108864) :
    Holds (a := 10000) (b := 64) ((dat1 V c).arrAt 3 cfg1.N) (nextq h z b) := by
  have : (dat1 V c).arrAt 3 cfg1.N = arr (nextq h z b) := by
    refine (dat1 V c).arrAt_eq_of_covers 3 _ (by decide +kernel) fun t _ y => ?_
    blk_simp
    rw [after1_3]
    frame_out
    have hy : y = ix2 (y 0) (y 1) := ValueIdx.eq_ix2 y
    rw [hy]
    refine (blk_holds V c hQ hz hb hle t (y 0) (y 1)).trans ?_
    refine Eq.trans ?_ (congrArg (arr (nextq h z b)) (?_ : ix2 (row t (y 0)) (y 1) = _))
    · rfl
    · blk_ext [idx t, row]
  rw [this]
  exact arr_holds _

/-- The normalised embedding the call writes. -/
theorem unit_holds (hQ : V c main_v1_2 = codes h) (hz : ∀ j k, (V c main_v10 (ix2 j k) : BitVec 8).toInt = z j k)
    (hb : Holds (a := 10000) (b := 64) (V c main_v14) b) (hle : ∀ r k, ∑ j, |code (h r j)| * |z j k| ≤ 67108864) :
    Holds (a := 10000) (b := 64) ((dat1 V c).arrAt 4 cfg1.N) (unit (nextq h z b)) := by
  have : (dat1 V c).arrAt 4 cfg1.N = arr (unit (nextq h z b)) := by
    refine (dat1 V c).arrAt_eq_of_covers 4 _ (by decide +kernel) fun t _ y => ?_
    blk_simp
    rw [after1_4]
    frame_out
    have hy : y = ix2 (y 0) (y 1) := ValueIdx.eq_ix2 y
    rw [hy]
    refine (payq2_holds (blk_holds V c hQ hz hb hle t) (y 0) (y 1)).trans ?_
    refine Eq.trans ?_ (congrArg (arr (unit (nextq h z b))) (?_ : ix2 (row t (y 0)) (y 1) = _))
    · rfl
    · blk_ext [idx t, row]
  rw [this]
  exact arr_holds _

end Cert.Region1
end
-- ==== Proof.Region2.lean ====
/- The results of call 3 (a later layer), on the hypergraph's codes and an embedding's codes. -/
module

public import proofs.«01_k».proof.Proof.Region0

@[expose] public section

set_option maxRecDepth 16384

noncomputable section

namespace Cert.Region2

open Cert.KernelIdeal Cert.KernelIdeal.Gen Cert.Nums Cert.Terms Cert.Pay
open Cert.Region0 (row unit arr arr_holds codes codes_toInt nextq)
open Idealize.ShloMosaic Idealize.ShloMosaic.Pointwise
open Idealize.ShloMosaic.Pipeline (Dat Cfg Window)

variable (V : Dev nD → (r : Ref sig .tc) → r.ty.Contents (Elt Ideal)) (c : Dev nD)
variable {h : Fin 10000 → Fin 10000 → ℝ} {z : Fin 10000 → Fin 64 → ℤ} {b : Fin 10000 → Fin 64 → ℝ}

theorem idx : ∀ t : Fin cfg2.N, win2_0.index t = ![t.val, 0, 0] ∧ win2_1.index t = ![0, 0] ∧ win2_2.index t = ![t.val, 0]
    ∧ win2_3.index t = ![t.val, 0] ∧ win2_4.index t = ![t.val, 0] :=
  (by decide +kernel : ∀ t : Fin grid2.N, _)

theorem blkQ (hQ : V c main_v1_2 = codes h) (t : Fin cfg2.N) (r : Fin 400) (j : Fin 10000) :
    (iblk2 V c 0 t (ix3 0 r j) : BitVec 8).toInt = code (h (row t r) j) := by
  refine Eq.trans (congrArg BitVec.toInt ?_) (codes_toInt (h := h) t r j)
  rw [← hQ]
  blk_ext [iblk2, idx t]

theorem blkE (hz : ∀ j k, (V c main_v24 (ix2 j k) : BitVec 8).toInt = z j k) (t : Fin cfg2.N) (j : Fin 10000) (k : Fin 64) :
    (iblk2 V c 1 t (ix2 j k) : BitVec 8).toInt = z j k := by
  refine Eq.trans (congrArg BitVec.toInt ?_) (hz j k)
  blk_ext [iblk2, idx t]

theorem blkG (hb : Holds (a := 10000) (b := 64) (V c main_v28) b) (t : Fin cfg2.N) :
    Holds (a := 400) (b := 64) (iblk2 V c 2 t) fun r k => b (row t r) k := by
  intro r k
  refine Eq.trans ?_ (hb (row t r) k)
  blk_ext [iblk2, idx t, row]

/-- The block one step computes. -/
theorem blk_holds (hQ : V c main_v1_2 = codes h) (hz : ∀ j k, (V c main_v24 (ix2 j k) : BitVec 8).toInt = z j k)
    (hb : Holds (a := 10000) (b := 64) (V c main_v28) b) (hle : ∀ r k, ∑ j, |code (h r j)| * |z j k| ≤ 67108864) (t : Fin cfg2.N) :
    Holds (a := 400) (b := 64) (k2_pay1 (iblk2 V c 1 t) (iblk2 V c 0 t) (iblk2 V c 2 t)) fun r k => nextq h z b (row t r) k :=
  payq_holds (blkE V c hz t) (blkQ V c hQ t) (blkG V c hb t) fun r k => hle (row t r) k

/-- The embedding the call writes. -/
theorem emb_holds (hQ : V c main_v1_2 = codes h) (hz : ∀ j k, (V c main_v24 (ix2 j k) : BitVec 8).toInt = z j k)
    (hb : Holds (a := 10000) (b := 64) (V c main_v28) b) (hle : ∀ r k, ∑ j, |code (h r j)| * |z j k| ≤ 67108864) :
    Holds (a := 10000) (b := 64) ((dat2 V c).arrAt 3 cfg2.N) (nextq h z b) := by
  have : (dat2 V c).arrAt 3 cfg2.N = arr (nextq h z b) := by
    refine (dat2 V c).arrAt_eq_of_covers 3 _ (by decide +kernel) fun t _ y => ?_
    blk_simp
    rw [after2_3]
    frame_out
    have hy : y = ix2 (y 0) (y 1) := ValueIdx.eq_ix2 y
    rw [hy]
    refine (blk_holds V c hQ hz hb hle t (y 0) (y 1)).trans ?_
    refine Eq.trans ?_ (congrArg (arr (nextq h z b)) (?_ : ix2 (row t (y 0)) (y 1) = _))
    · rfl
    · blk_ext [idx t, row]
  rw [this]
  exact arr_holds _

/-- The normalised embedding the call writes. -/
theorem unit_holds (hQ : V c main_v1_2 = codes h) (hz : ∀ j k, (V c main_v24 (ix2 j k) : BitVec 8).toInt = z j k)
    (hb : Holds (a := 10000) (b := 64) (V c main_v28) b) (hle : ∀ r k, ∑ j, |code (h r j)| * |z j k| ≤ 67108864) :
    Holds (a := 10000) (b := 64) ((dat2 V c).arrAt 4 cfg2.N) (unit (nextq h z b)) := by
  have : (dat2 V c).arrAt 4 cfg2.N = arr (unit (nextq h z b)) := by
    refine (dat2 V c).arrAt_eq_of_covers 4 _ (by decide +kernel) fun t _ y => ?_
    blk_simp
    rw [after2_4]
    frame_out
    have hy : y = ix2 (y 0) (y 1) := ValueIdx.eq_ix2 y
    rw [hy]
    refine (payq2_holds (blk_holds V c hQ hz hb hle t) (y 0) (y 1)).trans ?_
    refine Eq.trans ?_ (congrArg (arr (unit (nextq h z b))) (?_ : ix2 (row t (y 0)) (y 1) = _))
    · rfl
    · blk_ext [idx t, row]
  rw [this]
  exact arr_holds _

end Cert.Region2
end
-- ==== Proof.Chain.lean ====
/- The kernel's three calls, one after the other: what each writes is the reference's stage. -/
module

public import proofs.«01_k».proof.Defs
public import proofs.«01_k».proof.Proof.Layers
public import proofs.«01_k».proof.Proof.Region1
public import proofs.«01_k».proof.Proof.Region2

@[expose] public section

set_option maxRecDepth 16384

noncomputable section

namespace Cert.Chain

open Cert.KernelIdeal Cert.KernelIdeal.Gen Cert.Nums Cert.Terms Cert.HostOps Cert.Stages Cert.Layers
open Idealize.ShloMosaic Idealize.ShloMosaic.TcCoe Idealize.ShloMosaic.StableHlo Idealize.ShloMosaic.Pointwise

variable (m : (ℓ : Loc nD τ sig) → Buf (Elt Ideal) ℓ) (ρ : Dev nD → PrngReg) (c : Dev nD)

/-- The hypergraph as launched. -/
abbrev hyp : Hyp := m ((c : Thread nD τ).loc main_arg0)
/-- The users over the items, as launched. -/
abbrev emb : Emb := stackT (m ((c : Thread nD τ).loc main_arg1)) (m ((c : Thread nD τ).loc main_arg2))

/-- The precondition on one device: its five comparisons hold everywhere. -/
structure Ok : Prop where
  hyp : ∃ h, Holds (hyp m c) h
  emb : ∃ a, Holds (emb m c) a
  fst : cmpf .ole (absT (Chain.hyp m c) (E1 (Chain.hyp m c) (Chain.emb m c))) (broadcastInDim Cert.ReferenceIdeal.S10000x64 ![]
    Cert.ReferenceIdeal.Gen.bcast_S_S10000x64 (constant Cert.ReferenceIdeal.S_ .f32 0x4C800000#32)) = fun _ => 1#1
  snd : cmpf .ole (absT (Chain.hyp m c) (Eq (Chain.hyp m c) (E1 (Chain.hyp m c) (Chain.emb m c)))) (broadcastInDim Cert.ReferenceIdeal.S10000x64 ![]
    Cert.ReferenceIdeal.Gen.bcast_S_S10000x64 (constant Cert.ReferenceIdeal.S_ .f32 0x4C800000#32)) = fun _ => 1#1

theorem ok (hpre : Cert.Pre_KernelIdeal_finite_and_in_range m) : Ok m c := by
  have h := hpre c
  rw [pre_parts] at h
  obtain ⟨h0, h1, h2, h3, h4⟩ := h
  exact ⟨holds_of_real _ (real_of_lt _ _ h0), holds_of_real _ (stack_real _ _ (real_of_lt _ _ h1) (real_of_lt _ _ h2)), h3, h4⟩

/-- What the kernel leaves before the rows are split is what the reference states. -/
theorem all_eq (hok : Ok m c) : all m ρ c = total (hyp m c) (emb m c) := by
  obtain ⟨⟨h, hH⟩, ⟨a, ha⟩, hb1, hb2⟩ := hok
  have hV0 : V1 m ρ c main_arg0 = hyp m c := hyp0 m ρ c
  have hV1 : V1 m ρ c main_v0 = emb m c := stack0 m ρ c
  -- the first call
  have hh : Holds (a := 10000) (b := 10000) (V1 m ρ c main_arg0) h := by rw [hV0]; exact hH
  have he : Holds (a := 10000) (b := 64) (V1 m ρ c main_v0) a := by rw [hV1]; exact ha
  have H1 := E1_holds hH ha
  have e1 : (dat0 (V1 m ρ) c).arrAt 3 cfg0.N = E1 (hyp m c) (emb m c) := (Region0.emb_holds (V1 m ρ) c hh he).eq H1
  have u1 : (dat0 (V1 m ρ) c).arrAt 4 cfg0.N = normT (E1 (hyp m c) (emb m c)) := (Region0.unit_holds (V1 m ρ) c hh he).eq (Layers.unit_holds H1)
  have q1 : (dat0 (V1 m ρ) c).arrAt 5 cfg0.N = Region0.codes h := Region0.codes_eq (V1 m ρ) c hh
  -- the second call
  obtain ⟨z, b, hz, hg, hle, H2⟩ := Eq_holds hH H1 hb1
  have hq : V5 m ρ c main_v1_2 = Region0.codes h := (hyp1 m ρ c).trans q1
  have hy : V5 m ρ c main_v10 = ebytesT (E1 (hyp m c) (emb m c)) := (bytes1 m ρ c).trans (by rw [emb1, e1])
  have hw : V5 m ρ c main_v14 = gateT (E1 (hyp m c) (emb m c)) := (gate1 m ρ c).trans (by rw [emb1, e1])
  rw [← hy] at hz
  rw [← hw] at hg
  have e2 : (dat1 (V5 m ρ) c).arrAt 3 cfg1.N = Eq (hyp m c) (E1 (hyp m c) (emb m c)) := (Region1.emb_holds (V5 m ρ) c hq hz hg hle).eq H2
  have u2 : (dat1 (V5 m ρ) c).arrAt 4 cfg1.N = normT (Eq (hyp m c) (E1 (hyp m c) (emb m c))) :=
    (Region1.unit_holds (V5 m ρ) c hq hz hg hle).eq (Layers.unit_holds H2)
  -- the third call
  obtain ⟨z', b', hz', hg', hle', H3⟩ := Eq_holds hH H2 hb2
  have hq' : V9 m ρ c main_v1_2 = Region0.codes h := (hyp2 m ρ c).trans q1
  have hy' : V9 m ρ c main_v24 = ebytesT (Eq (hyp m c) (E1 (hyp m c) (emb m c))) := (bytes2 m ρ c).trans (by rw [emb2, e2])
  have hw' : V9 m ρ c main_v28 = gateT (Eq (hyp m c) (E1 (hyp m c) (emb m c))) := (gate2 m ρ c).trans (by rw [emb2, e2])
  rw [← hy'] at hz'
  rw [← hw'] at hg'
  have u3 : (dat2 (V9 m ρ) c).arrAt 4 cfg2.N = normT (Eq (hyp m c) (Eq (hyp m c) (E1 (hyp m c) (emb m c)))) :=
    (Region2.unit_holds (V9 m ρ) c hq' hz' hg' hle').eq (Layers.unit_holds H3)
  unfold all total
  rw [u1, u2, u3]

end Cert.Chain
end
-- ==== Proof.Run.lean ====
/- The kernel's run, read at its two results: every execution ends with them at the last boundary of the generated fold of
   buffer contents (`Gen.W11`), the arguments as launched. The launch is the generated frame's; only what is read
   off the final state differs. -/
module

public import proofs.«01_k».proof.Proof.Gen.KernelIdeal.Frame

@[expose] public section

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution terminates with the two results at the fold's last boundary and the arguments as launched. -/
theorem run : θ_run defs (onTc (τ := τ) (main (F := F))) ⟨m, fun _ => 0, ρ⟩ (fun r => ∀ c : Dev nD,
      r.2.mem ((c.tc : Thread nD τ).loc main_v31) = W11 m ρ c (Proc.devRef .tc main_v31)
      ∧ r.2.mem ((c.tc : Thread nD τ).loc main_v32) = W11 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ c =>
      ⟨h c _ (mem_uc main_v31 (by decide)),
       h c _ (mem_uc main_v32 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.KRun

end
-- ==== Proof.Algebraic.lean ====
/- The value claim: both programs' results are the rows, users' then items', of one array. -/
module

public import proofs.«01_k».proof.Proof.Chain
public import proofs.«01_k».proof.Proof.Run

@[expose] public section

set_option maxRecDepth 16384

noncomputable section

namespace Cert.Algebraic

open Cert.HostOps Cert.Stages Cert.Chain
open Idealize.ShloMosaic Idealize.ShloMosaic.TcCoe Idealize.ShloMosaic.StableHlo Idealize.SL.Sem

theorem algebraic : Cert.algebraic_KernelIdeal_ReferenceIdeal_pre_finite_and_in_range := by
  intro m g m' g' hpre hin
  refine ⟨fun c => extractStridedSlice Cert.KernelIdeal.S6000x256 ![0, 0] (total (hyp m c) (emb m c)) Cert.KernelIdeal.Gen.slices_S10000x256_S6000x256_0_0,
    fun c => extractStridedSlice Cert.KernelIdeal.S4000x256 ![6000, 0] (total (hyp m c) (emb m c)) Cert.KernelIdeal.Gen.slices_S10000x256_S4000x256_6000_0,
    ?_, ?_⟩
  · refine (θ_run Cert.KernelIdeal.defs _ _).mono (fun r h c => ?_) (Cert.KernelIdeal.KRun.run m g)
    obtain ⟨h1, h2, h3⟩ := h c
    refine ⟨h1.trans ?_, h2.trans ?_, h3⟩
    · rw [users, all_eq m g c (ok m c hpre)]
    · rw [items, all_eq m g c (ok m c hpre)]
  · refine (θ_run Cert.ReferenceIdeal.defs _ _).mono (fun r h c => ?_) (Cert.ReferenceIdeal.Value.run (F := Ideal) m' g')
    obtain ⟨h1, h2, h3⟩ := h c
    obtain ⟨i0, i1, i2, -⟩ := hin c
    have ht : Cert.ReferenceIdeal.Value.res_main_v74 (launchContents m' c) = total (hyp m c) (emb m c) := by
      rw [ref_total]
      exact congrArg₂ total i0 (congrArg₂ stackT i1 i2)
    refine ⟨h1.trans ?_, h2.trans ?_, h3⟩
    · rw [ht]
    · rw [ht]

end Cert.Algebraic
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_and_in_range
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_and_in_range.Gen.facts,
  Frames.kernel, Frames.kernelIdeal, Frames.kernelIdealPre, Frames.referenceIdeal, Frames.referenceIdealPre, Frames.preserves,
  Algebraic.algebraic⟩

end Cert.Proof

end
